-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v107) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v32_0)) (v1 : (c : Dev Cert.Kernel4Ideal.nD) → Buf (Elt Ideal) ((c.tc : Thread Cert.Kernel4Ideal.nD Cert.Kernel4Ideal.τ).loc Cert.Kernel4Ideal.main_v32_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32_0) = v0 c
          ∧ r.2.mem ((c.tc : Thread Cert.Kernel4Ideal.nD Cert.Kernel4Ideal.τ).loc Cert.Kernel4Ideal.main_v32_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v184) = v0 c
          ∧ r.2.mem ((c.tc : Thread Cert.Reference4Ideal.nD Cert.Reference4Ideal.τ).loc Cert.Reference4Ideal.main_v183) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v27) = v2 c
          ∧ r.2.mem ((c.tc : Thread Cert.Reference5Ideal.nD Cert.Reference5Ideal.τ).loc Cert.Reference5Ideal.main_v29) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel2.lean ====
abbrev S9216x2048 : Shape := ⟨2, ![9216, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S1x2048x5632 : Shape := ⟨3, ![1, 2048, 5632]⟩
abbrev S2048x5632 : Shape := ⟨2, ![2048, 5632]⟩
abbrev S2048 : Shape := ⟨1, ![2048]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024x1 : Shape := ⟨2, ![1024, 1]⟩
abbrev S1024 : Shape := ⟨1, ![1024]⟩
abbrev S1024x512 : Shape := ⟨2, ![1024, 512]⟩

abbrev nBuf : Space → Nat
  | .hbm => 15
  | .vmem => 13
  | .smem => 0
  | _ => 0

abbrev bufTy : (tb : Table) → Fin (tcTables nBuf tb) → BufTy
  | .hbm, ⟨0, _⟩ => ⟨S9216x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048x5632, .f32⟩
  | .hbm, ⟨5, _⟩ => ⟨S2048x5632, .f32⟩
  | .hbm, ⟨6, _⟩ => ⟨S2048x5632, .bf16⟩
  | .hbm, ⟨7, _⟩ => ⟨S1x2048x5632, .f32⟩
  | .hbm, ⟨8, _⟩ => ⟨S2048x5632, .f32⟩
  | .hbm, ⟨9, _⟩ => ⟨S2048x5632, .bf16⟩
  | .hbm, ⟨10, _⟩ => ⟨S2048, .f32⟩
  | .hbm, ⟨11, _⟩ => ⟨S1x2048, .f32⟩
  | .hbm, ⟨12, _⟩ => ⟨S5632x2048, .f32⟩
  | .hbm, ⟨13, _⟩ => ⟨S5632x2048, .bf16⟩
  | .hbm, ⟨14, _⟩ => ⟨S9216x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | .local _ .vmem, ⟨12, _⟩ => ⟨S1024x1, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S9216x2048 : Shape := ⟨2, ![9216, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S2048x11264 : Shape := ⟨2, ![2048, 11264]⟩
abbrev S9216x11264 : Shape := ⟨2, ![9216, 11264]⟩
abbrev S9216x5632 : Shape := ⟨2, ![9216, 5632]⟩
abbrev S5632x2048 : Shape := ⟨2, ![5632, 2048]⟩

abbrev nBuf : Space → Nat
  | .hbm => 38
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S9216x2048, .f32⟩
  | .hbm, ⟨6, _⟩ => ⟨S_, .f32⟩
  | .hbm, ⟨7, _⟩ => ⟨S9216, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S_, .f32⟩
  | .hbm, ⟨13, _⟩ => ⟨S9216x1, .f32⟩
  | .hbm, ⟨14, _⟩ => ⟨S9216x1, .f32⟩
  | .hbm, ⟨15, _⟩ => ⟨S9216x1, .f32⟩
  | .hbm, ⟨16, _⟩ => ⟨S9216x2048, .f32⟩
  | .hbm, ⟨17, _⟩ => ⟨S9216x2048, .f32⟩
  | .hbm, ⟨18, _⟩ => ⟨S1x2048, .f32⟩
  | .hbm, ⟨19, _⟩ => ⟨S9216x2048, .f32⟩
  | .hbm, ⟨20, _⟩ => ⟨S9216x2048, .f32⟩
  | .hbm, ⟨21, _⟩ => ⟨S2048x11264, .f32⟩
  | .hbm, ⟨22, _⟩ => ⟨S9216x11264, .f32⟩
  | .hbm, ⟨23, _⟩ => ⟨S9216x5632, .f32⟩
  | .hbm, ⟨24, _⟩ => ⟨S9216x5632, .f32⟩
  | .hbm, ⟨25, _⟩ => ⟨S9216x5632, .f32⟩
  | .hbm, ⟨26, _⟩ => ⟨S9216x5632, .f32⟩
  | .hbm, ⟨27, _⟩ => ⟨S_, .f32⟩
  | .hbm, ⟨28, _⟩ => ⟨S9216x5632, .f32⟩
  | .hbm, ⟨29, _⟩ => ⟨S9216x5632, .f32⟩
  | .hbm, ⟨30, _⟩ => ⟨S_, .f32⟩
  | .hbm, ⟨31, _⟩ => ⟨S9216x5632, .f32⟩
  | .hbm, ⟨32, _⟩ => ⟨S9216x5632, .f32⟩
  | .hbm, ⟨33, _⟩ => ⟨S9216x5632, .f32⟩
  | .hbm, ⟨34, _⟩ => ⟨S9216x5632, .f32⟩
  | .hbm, ⟨35, _⟩ => ⟨S5632x2048, .f32⟩
  | .hbm, ⟨36, _⟩ => ⟨S9216x2048, .f32⟩
  | .hbm, ⟨37, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Kernel3.lean ====
abbrev S9216x2048 : Shape := ⟨2, ![9216, 2048]⟩
abbrev S1x4x2048x256 : Shape := ⟨4, ![1, 4, 2048, 256]⟩
abbrev S1x128x8x256 : Shape := ⟨4, ![1, 128, 8, 256]⟩
abbrev S1x256x2048 : Shape := ⟨3, ![1, 256, 2048]⟩
abbrev S1x2048 : Shape := ⟨2, ![1, 2048]⟩
abbrev S1x2048x2048 : Shape := ⟨3, ![1, 2048, 2048]⟩
abbrev S2048 : Shape := ⟨1, ![2048]⟩
abbrev S4x2048x256 : Shape := ⟨3, ![4, 2048, 256]⟩
abbrev S8192x256 : Shape := ⟨2, ![8192, 256]⟩
abbrev S128x8x256 : Shape := ⟨3, ![128, 8, 256]⟩
abbrev S1024x256 : Shape := ⟨2, ![1024, 256]⟩
abbrev S256x2048 : Shape := ⟨2, ![256, 2048]⟩
abbrev S2048x2048 : Shape := ⟨2, ![2048, 2048]⟩
abbrev S8192x2048 : Shape := ⟨2, ![8192, 2048]⟩
abbrev S1024x2048 : Shape := ⟨2, ![1024, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S512x1024 : Shape := ⟨2, ![512, 1024]⟩
abbrev S2048x1024 : Shape := ⟨2, ![2048, 1024]⟩

abbrev nBuf : Space → Nat
  | .hbm => 23
  | .vmem => 16
  | .smem => 0
  | _ => 0

abbrev bufTy : (tb : Table) → Fin (tcTables nBuf tb) → BufTy
  | .hbm, ⟨0, _⟩ => ⟨S9216x2048, .f32⟩
  | .hbm, ⟨1, _⟩ => ⟨S1x4x2048x256, .f32⟩
  | .hbm, ⟨2, _⟩ => ⟨S1x128x8x256, .f32⟩
  | .hbm, ⟨3, _⟩ => ⟨S1x256x2048, .f32⟩
  | .hbm, ⟨4, _⟩ => ⟨S1x2048, .f32⟩
  | .hbm, ⟨5, _⟩ => ⟨S1x2048, .f32⟩
  | .hbm, ⟨6, _⟩ => ⟨S1x2048x2048, .f32⟩
  | .hbm, ⟨7, _⟩ => ⟨S2048, .f32⟩
  | .hbm, ⟨8, _⟩ => ⟨S4x2048x256, .f32⟩
  | .hbm, ⟨9, _⟩ => ⟨S8192x256, .f32⟩
  | .hbm, ⟨10, _⟩ => ⟨S128x8x256, .f32⟩
  | .hbm, ⟨11, _⟩ => ⟨S1024x256, .f32⟩
  | .hbm, ⟨12, _⟩ => ⟨S256x2048, .f32⟩
  | .hbm, ⟨13, _⟩ => ⟨S256x2048, .bf16⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048x2048, .f32⟩
  | .hbm, ⟨19, _⟩ => ⟨S2048x2048, .bf16⟩
  | .hbm, ⟨20, _⟩ => ⟨S1x2048, .f32⟩
  | .hbm, ⟨21, _⟩ => ⟨S8192x2048, .f32⟩
  | .hbm, ⟨22, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S256x2048, .bf16⟩
  | .local _ .vmem, ⟨7, _⟩ => ⟨S1x2048, .f32⟩
  | .local _ .vmem, ⟨8, _⟩ => ⟨S1x2048, .f32⟩
  | .local _ .vmem, ⟨9, _⟩ => ⟨S2048x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S9216x2048 : Shape := ⟨2, ![9216, 2048]⟩
abbrev S1x4x2048x256 : Shape := ⟨4, ![1, 4, 2048, 256]⟩
abbrev S1x128x8x256 : Shape := ⟨4, ![1, 128, 8, 256]⟩
abbrev S1x256x2048 : Shape := ⟨3, ![1, 256, 2048]⟩
abbrev S1x2048 : Shape := ⟨2, ![1, 2048]⟩
abbrev S1x2048x2048 : Shape := ⟨3, ![1, 2048, 2048]⟩
abbrev S2048 : Shape := ⟨1, ![2048]⟩
abbrev S256x2048 : Shape := ⟨2, ![256, 2048]⟩
abbrev S2048x2048 : Shape := ⟨2, ![2048, 2048]⟩
abbrev S8192x2048 : Shape := ⟨2, ![8192, 2048]⟩
abbrev S4x2048x256 : Shape := ⟨3, ![4, 2048, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024x2048 : Shape := ⟨2, ![1024, 2048]⟩
abbrev S128x8x256 : Shape := ⟨3, ![128, 8, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 138
  | .vmem => 0
  | .smem => 0
  | _ => 0

abbrev hbmTy0_0 (i : Nat) : BufTy := match i % 128 with
  | 0 => ⟨S9216x2048, .f32⟩
  | 1 => ⟨S1x4x2048x256, .f32⟩
  | 2 => ⟨S1x128x8x256, .f32⟩
  | 3 => ⟨S1x256x2048, .f32⟩
  | 4 => ⟨S1x2048, .f32⟩
  | 5 => ⟨S1x2048, .f32⟩
  | 6 => ⟨S1x2048x2048, .f32⟩
  | 7 => ⟨S2048, .f32⟩
  | 8 => ⟨S256x2048, .f32⟩
  | 9 => ⟨S2048, .f32⟩
  | 10 => ⟨S2048, .f32⟩
  | 11 => ⟨S2048x2048, .f32⟩
  | 12 => ⟨S8192x2048, .f32⟩
  | 13 => ⟨S4x2048x256, .f32⟩
  | 14 => ⟨S8192x256, .f32⟩
  | 15 => ⟨S8192x2048, .f32⟩
  | 16 => ⟨S8192x2048, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1, .f32⟩
  | 27 => ⟨S8192x2048, .f32⟩
  | 28 => ⟨S8192x2048, .f32⟩
  | 29 => ⟨S1x2048, .f32⟩
  | 30 => ⟨S8192x2048, .f32⟩
  | 31 => ⟨S8192x2048, .f32⟩
  | 32 => ⟨S8192x2048, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x1, .f32⟩
  | 43 => ⟨S8192x2048, .f32⟩
  | 44 => ⟨S8192x2048, .f32⟩
  | 45 => ⟨S1x2048, .f32⟩
  | 46 => ⟨S8192x2048, .f32⟩
  | 47 => ⟨S8192x2048, .f32⟩
  | 48 => ⟨S8192x2048, .f32⟩
  | 49 => ⟨S8192x2048, .f32⟩
  | 50 => ⟨S8192x2048, .f32⟩
  | 51 => ⟨S_, .f32⟩
  | 52 => ⟨S8192x2048, .f32⟩
  | 53 => ⟨S8192x2048, .f32⟩
  | 54 => ⟨S_, .f32⟩
  | 55 => ⟨S8192x2048, .f32⟩
  | 56 => ⟨S8192x2048, .f32⟩
  | 57 => ⟨S8192x2048, .f32⟩
  | 58 => ⟨S8192x2048, .f32⟩
  | 59 => ⟨S8192x2048, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x1, .f32⟩
  | 70 => ⟨S8192x2048, .f32⟩
  | 71 => ⟨S8192x2048, .f32⟩
  | 72 => ⟨S1x2048, .f32⟩
  | 73 => ⟨S8192x2048, .f32⟩
  | 74 => ⟨S8192x2048, .f32⟩
  | 75 => ⟨S1024x2048, .f32⟩
  | 76 => ⟨S128x8x256, .f32⟩
  | 77 => ⟨S1024x256, .f32⟩
  | 78 => ⟨S1024x2048, .f32⟩
  | 79 => ⟨S1024x2048, .f32⟩
  | 80 => ⟨S_, .f32⟩
  | 81 => ⟨S1024, .f32⟩
  | 82 => ⟨S1024x1, .f32⟩
  | 83 => ⟨S_, .f32⟩
  | 84 => ⟨S1024x1, .f32⟩
  | 85 => ⟨S1024x1, .f32⟩
  | 86 => ⟨S_, .f32⟩
  | 87 => ⟨S1024x1, .f32⟩
  | 88 => ⟨S1024x1, .f32⟩
  | 89 => ⟨S1024x1, .f32⟩
  | 90 => ⟨S1024x2048, .f32⟩
  | 91 => ⟨S1024x2048, .f32⟩
  | 92 => ⟨S1x2048, .f32⟩
  | 93 => ⟨S1024x2048, .f32⟩
  | 94 => ⟨S1024x2048, .f32⟩
  | 95 => ⟨S1024x2048, .f32⟩
  | 96 => ⟨S_, .f32⟩
  | 97 => ⟨S1024, .f32⟩
  | 98 => ⟨S1024x1, .f32⟩
  | 99 => ⟨S_, .f32⟩
  | 100 => ⟨S1024x1, .f32⟩
  | 101 => ⟨S1024x1, .f32⟩
  | 102 => ⟨S_, .f32⟩
  | 103 => ⟨S1024x1, .f32⟩
  | 104 => ⟨S1024x1, .f32⟩
  | 105 => ⟨S1024x1, .f32⟩
  | 106 => ⟨S1024x2048, .f32⟩
  | 107 => ⟨S1024x2048, .f32⟩
  | 108 => ⟨S1x2048, .f32⟩
  | 109 => ⟨S1024x2048, .f32⟩
  | 110 => ⟨S1024x2048, .f32⟩
  | 111 => ⟨S1024x2048, .f32⟩
  | 112 => ⟨S1024x2048, .f32⟩
  | 113 => ⟨S1024x2048, .f32⟩
  | 114 => ⟨S_, .f32⟩
  | 115 => ⟨S1024x2048, .f32⟩
  | 116 => ⟨S1024x2048, .f32⟩
  | 117 => ⟨S_, .f32⟩
  | 118 => ⟨S1024x2048, .f32⟩
  | 119 => ⟨S1024x2048, .f32⟩
  | 120 => ⟨S1024x2048, .f32⟩
  | 121 => ⟨S1024x2048, .f32⟩
  | 122 => ⟨S1024x2048, .f32⟩
  | 123 => ⟨S_, .f32⟩
  | 124 => ⟨S1024, .f32⟩
  | 125 => ⟨S1024x1, .f32⟩
  | 126 => ⟨S_, .f32⟩
  | 127 => ⟨S1024x1, .f32⟩
  | _ => ⟨S9216x2048, .f32⟩

abbrev hbmTy0_1 (i : Nat) : BufTy := match i % 128 with
  | 0 => ⟨S1024x1, .f32⟩
  | 1 => ⟨S_, .f32⟩
  | 2 => ⟨S1024x1, .f32⟩
  | 3 => ⟨S1024x1, .f32⟩
  | 4 => ⟨S1024x1, .f32⟩
  | 5 => ⟨S1024x2048, .f32⟩
  | 6 => ⟨S1024x2048, .f32⟩
  | 7 => ⟨S1x2048, .f32⟩
  | 8 => ⟨S1024x2048, .f32⟩
  | 9 => ⟨S1024x2048, .f32⟩
  | _ => ⟨S9216x2048, .f32⟩

abbrev hbmTy (i : Nat) : BufTy := match i / 128 with
  | 0 => hbmTy0_0 i
  | 1 => hbmTy0_1 i
  | _ => ⟨S9216x2048, .f32⟩

abbrev bufTy : (tb : Table) → Fin (tcTables nBuf tb) → BufTy
  | .hbm, ⟨i, _⟩ => hbmTy i
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_13 : Ref sig .tc := ⟨.hbm, 96, rfl⟩
abbrev main_v74 : Ref sig .tc := ⟨.hbm, 97, rfl⟩
abbrev main_v75 : Ref sig .tc := ⟨.hbm, 98, rfl⟩
abbrev main_cst_14 : Ref sig .tc := ⟨.hbm, 99, rfl⟩
abbrev main_v76 : Ref sig .tc := ⟨.hbm, 100, rfl⟩
abbrev main_v77 : Ref sig .tc := ⟨.hbm, 101, rfl⟩
abbrev main_cst_15 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_16 : Ref sig .tc := ⟨.hbm, 114, rfl⟩
abbrev main_v89 : Ref sig .tc := ⟨.hbm, 115, rfl⟩
abbrev main_v90 : Ref sig .tc := ⟨.hbm, 116, rfl⟩
abbrev main_cst_17 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_18 : Ref sig .tc := ⟨.hbm, 123, rfl⟩
abbrev main_v96 : Ref sig .tc := ⟨.hbm, 124, rfl⟩
abbrev main_v97 : Ref sig .tc := ⟨.hbm, 125, rfl⟩
abbrev main_cst_19 : Ref sig .tc := ⟨.hbm, 126, rfl⟩
abbrev main_v98 : Ref sig .tc := ⟨.hbm, 127, rfl⟩
abbrev main_v99 : Ref sig .tc := ⟨.hbm, 128, rfl⟩
abbrev main_cst_20 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩

abbrev nD : Nat := 1
abbrev τ : Topo := Topo.v7x

variable {F : FTy → Type} [FloatOps F]
-- ==== Kernel4.lean ====
abbrev S4x2048x2048 : Shape := ⟨3, ![4, 2048, 2048]⟩
abbrev S128x8x2048 : Shape := ⟨3, ![128, 8, 2048]⟩
abbrev S8192x1024 : Shape := ⟨2, ![8192, 1024]⟩
abbrev S1024x1024 : Shape := ⟨2, ![1024, 1024]⟩
abbrev S8192x5120 : Shape := ⟨2, ![8192, 5120]⟩
abbrev S1024x5120 : Shape := ⟨2, ![1024, 5120]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x2048 : Shape := ⟨3, ![1, 2048, 2048]⟩
abbrev S8192x2048 : Shape := ⟨2, ![8192, 2048]⟩
abbrev S1024x2048 : Shape := ⟨2, ![1024, 2048]⟩
abbrev S1024 : Shape := ⟨1, ![1024]⟩
abbrev S8x128x128 : Shape := ⟨3, ![8, 128, 128]⟩
abbrev S8x128 : Shape := ⟨2, ![8, 128]⟩
abbrev S2048x2048 : Shape := ⟨2, ![2048, 2048]⟩
abbrev S1x8x1x128x1x128 : Shape := ⟨6, ![1, 8, 1, 128, 1, 128]⟩
abbrev S128x8 : Shape := ⟨2, ![128, 8]⟩
abbrev S128x8x128 : Shape := ⟨3, ![128, 8, 128]⟩
abbrev S128x1024 : Shape := ⟨2, ![128, 1024]⟩
abbrev S1x128x1x1024 : Shape := ⟨4, ![1, 128, 1, 1024]⟩
abbrev S8x8x8 : Shape := ⟨3, ![8, 8, 8]⟩
abbrev S1x8x1x8x1x8 : Shape := ⟨6, ![1, 8, 1, 8, 1, 8]⟩
abbrev S1x8x16x8x16x8 : Shape := ⟨6, ![1, 8, 16, 8, 16, 8]⟩
abbrev S8x8 : Shape := ⟨2, ![8, 8]⟩
abbrev S8x8x128 : Shape := ⟨3, ![8, 8, 128]⟩
abbrev S8x1024 : Shape := ⟨2, ![8, 1024]⟩
abbrev S1x8x1x1024 : Shape := ⟨4, ![1, 8, 1, 1024]⟩
abbrev S16x8x1x1024 : Shape := ⟨4, ![16, 8, 1, 1024]⟩
abbrev S9216x2048 : Shape := ⟨2, ![9216, 2048]⟩
abbrev S512x2048 : Shape := ⟨2, ![512, 2048]⟩
abbrev S512x1024 : Shape := ⟨2, ![512, 1024]⟩
abbrev S128x128 : Shape := ⟨2, ![128, 128]⟩
abbrev S1x128x128 : Shape := ⟨3, ![1, 128, 128]⟩
abbrev S512x512 : Shape := ⟨2, ![512, 512]⟩
abbrev S1024x512 : Shape := ⟨2, ![1024, 512]⟩
abbrev S128 : Shape := ⟨1, ![128]⟩
abbrev S128x1 : Shape := ⟨2, ![128, 1]⟩

abbrev nBuf : Space → Nat
  | .hbm => 46
  | .vmem => 30
  | .smem => 0
  | _ => 0

abbrev bufTy : (tb : Table) → Fin (tcTables nBuf tb) → BufTy
  | .hbm, ⟨0, _⟩ => ⟨S4x2048x2048, .f32⟩
  | .hbm, ⟨1, _⟩ => ⟨S128x8x2048, .f32⟩
  | .hbm, ⟨2, _⟩ => ⟨S8192x1024, .bf16⟩
  | .hbm, ⟨3, _⟩ => ⟨S1024x1024, .bf16⟩
  | .hbm, ⟨4, _⟩ => ⟨S8192x5120, .bf16⟩
  | .hbm, ⟨5, _⟩ => ⟨S1024x5120, .bf16⟩
  | .hbm, ⟨6, _⟩ => ⟨S1x1024, .f32⟩
  | .hbm, ⟨7, _⟩ => ⟨S1x1024, .f32⟩
  | .hbm, ⟨8, _⟩ => ⟨S1x8x128x128, .f32⟩
  | .hbm, ⟨9, _⟩ => ⟨S1x8x128, .f32⟩
  | .hbm, ⟨10, _⟩ => ⟨S1x1024, .f32⟩
  | .hbm, ⟨11, _⟩ => ⟨S1x2048x2048, .f32⟩
  | .hbm, ⟨12, _⟩ => ⟨S8192x2048, .f32⟩
  | .hbm, ⟨13, _⟩ => ⟨S1024x2048, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S8x128x128, .f32⟩
  | .hbm, ⟨19, _⟩ => ⟨S8x128, .f32⟩
  | .hbm, ⟨20, _⟩ => ⟨S1024, .f32⟩
  | .hbm, ⟨21, _⟩ => ⟨S1x1024, .f32⟩
  | .hbm, ⟨22, _⟩ => ⟨S2048x2048, .f32⟩
  | .hbm, ⟨23, _⟩ => ⟨S2048x2048, .bf16⟩
  | .hbm, ⟨24, _⟩ => ⟨S1x8x1x128x1x128, .f32⟩
  | .hbm, ⟨25, _⟩ => ⟨S1x8x1x128x1x128, .f32⟩
  | .hbm, ⟨26, _⟩ => ⟨S8x128x128, .f32⟩
  | .hbm, ⟨27, _⟩ => ⟨S128x8, .f32⟩
  | .hbm, ⟨28, _⟩ => ⟨S128x8x128, .f32⟩
  | .hbm, ⟨29, _⟩ => ⟨S128x1024, .f32⟩
  | .hbm, ⟨30, _⟩ => ⟨S1x128x1x1024, .f32⟩
  | .hbm, ⟨31, _⟩ => ⟨S1x128x1x1024, .f32⟩
  | .hbm, ⟨32, _⟩ => ⟨S128x1024, .f32⟩
  | .hbm, ⟨33, _⟩ => ⟨S8x8x8, .f32⟩
  | .hbm, ⟨34, _⟩ => ⟨S1x8x1x8x1x8, .f32⟩
  | .hbm, ⟨35, _⟩ => ⟨S1x8x16x8x16x8, .f32⟩
  | .hbm, ⟨36, _⟩ => ⟨S8x128x128, .f32⟩
  | .hbm, ⟨37, _⟩ => ⟨S8x8, .f32⟩
  | .hbm, ⟨38, _⟩ => ⟨S8x8, .f32⟩
  | .hbm, ⟨39, _⟩ => ⟨S8x8x128, .f32⟩
  | .hbm, ⟨40, _⟩ => ⟨S8x1024, .f32⟩
  | .hbm, ⟨41, _⟩ => ⟨S1x8x1x1024, .f32⟩
  | .hbm, ⟨42, _⟩ => ⟨S16x8x1x1024, .f32⟩
  | .hbm, ⟨43, _⟩ => ⟨S128x1024, .f32⟩
  | .hbm, ⟨44, _⟩ => ⟨S9216x2048, .f32⟩
  | .hbm, ⟨45, _⟩ => ⟨S1024x1024, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S8x128x128, .f32⟩
  | .local _ .vmem, ⟨19, _⟩ => ⟨S128x1024, .f32⟩
  | .local _ .vmem, ⟨20, _⟩ => ⟨S8x128x128, .f32⟩
  | .local _ .vmem, ⟨21, _⟩ => ⟨S128x1024, .f32⟩
  | .local _ .vmem, ⟨22, _⟩ => ⟨S1x1024, .f32⟩
  | .local _ .vmem, ⟨23, _⟩ => ⟨S1024x2048, .bf16⟩
  | .local _ .vmem, ⟨24, _⟩ => ⟨S1024x2048, .bf16⟩
  | .local _ .vmem, ⟨25, _⟩ => ⟨S512x2048, .f32⟩
  | .local _ .vmem, ⟨26, _⟩ => ⟨S512x2048, .f32⟩
  | .local _ .vmem, ⟨27, _⟩ => ⟨S512x1024, .f32⟩
  | .local _ .vmem, ⟨28, _⟩ => ⟨S512x1024, .f32⟩
  | .local _ .vmem, ⟨29, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c3_i32 : BitVec 32 := 3#32
  let c0_i32 : BitVec 32 := 0#32
  ![v0.toNat, c3_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c4_i32 : BitVec 32 := 4#32
  let c0_i32 : BitVec 32 := 0#32
  ![v0.toNat, c4_i32.toNat]

def cc0_transform_6 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c3_i32 : BitVec 32 := 3#32
  let c0_i32_0 : BitVec 32 := 0#32
  ![v1.toNat, c3_i32.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S4x2048x2048 : Shape := ⟨3, ![4, 2048, 2048]⟩
abbrev S128x8x2048 : Shape := ⟨3, ![128, 8, 2048]⟩
abbrev S8192x1024 : Shape := ⟨2, ![8192, 1024]⟩
abbrev S1024x1024 : Shape := ⟨2, ![1024, 1024]⟩
abbrev S8192x5120 : Shape := ⟨2, ![8192, 5120]⟩
abbrev S1024x5120 : Shape := ⟨2, ![1024, 5120]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x2048 : Shape := ⟨3, ![1, 2048, 2048]⟩
abbrev S1024 : Shape := ⟨1, ![1024]⟩
abbrev S8x128x128 : Shape := ⟨3, ![8, 128, 128]⟩
abbrev S8x128 : Shape := ⟨2, ![8, 128]⟩
abbrev S2048x2048 : Shape := ⟨2, ![2048, 2048]⟩
abbrev S4x2048x5120 : Shape := ⟨3, ![4, 2048, 5120]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x8x128 : Shape := ⟨4, ![4, 2048, 8, 128]⟩
abbrev S4x16x128x8x128 : Shape := ⟨5, ![4, 16, 128, 8, 128]⟩
abbrev S128x128 : Shape := ⟨2, ![128, 128]⟩
abbrev S1x128x128 : Shape := ⟨3, ![1, 128, 128]⟩
abbrev S8x4x16x128x128 : Shape := ⟨5, ![8, 4, 16, 128, 128]⟩
abbrev S128x8 : Shape := ⟨2, ![128, 8]⟩
abbrev S1x1x128x8x1 : Shape := ⟨5, ![1, 1, 128, 8, 1]⟩
abbrev S8192x2048 : Shape := ⟨2, ![8192, 2048]⟩
abbrev S128x8x5120 : Shape := ⟨3, ![128, 8, 5120]⟩
abbrev S128x8x1024 : Shape := ⟨3, ![128, 8, 1024]⟩
abbrev S128x8x1 : Shape := ⟨3, ![128, 8, 1]⟩
abbrev S128x8x8x128 : Shape := ⟨4, ![128, 8, 8, 128]⟩
abbrev S128x1x8x8x128 : Shape := ⟨5, ![128, 1, 8, 8, 128]⟩
abbrev S8x8 : Shape := ⟨2, ![8, 8]⟩
abbrev S1x8x8 : Shape := ⟨3, ![1, 8, 8]⟩
abbrev S8x8x8 : Shape := ⟨3, ![8, 8, 8]⟩
abbrev S8x128x1x128x8 : Shape := ⟨5, ![8, 128, 1, 128, 8]⟩
abbrev S1x1x8x8x1 : Shape := ⟨5, ![1, 1, 8, 8, 1]⟩
abbrev S1024x2048 : Shape := ⟨2, ![1024, 2048]⟩
abbrev S9216x2048 : Shape := ⟨2, ![9216, 2048]⟩

abbrev nBuf : Space → Nat
  | .hbm => 255
  | .vmem => 0
  | .smem => 0
  | _ => 0

abbrev hbmTy0_0 (i : Nat) : BufTy := match i % 128 with
  | 0 => ⟨S4x2048x2048, .f32⟩
  | 1 => ⟨S128x8x2048, .f32⟩
  | 2 => ⟨S8192x1024, .bf16⟩
  | 3 => ⟨S1024x1024, .bf16⟩
  | 4 => ⟨S8192x5120, .bf16⟩
  | 5 => ⟨S1024x5120, .bf16⟩
  | 6 => ⟨S1x1024, .f32⟩
  | 7 => ⟨S1x1024, .f32⟩
  | 8 => ⟨S1x8x128x128, .f32⟩
  | 9 => ⟨S1x8x128, .f32⟩
  | 10 => ⟨S1x1024, .f32⟩
  | 11 => ⟨S1x2048x2048, .f32⟩
  | 12 => ⟨S1024, .f32⟩
  | 13 => ⟨S1024, .f32⟩
  | 14 => ⟨S8x128x128, .f32⟩
  | 15 => ⟨S8x128, .f32⟩
  | 16 => ⟨S1024, .f32⟩
  | 17 => ⟨S2048x2048, .f32⟩
  | 18 => ⟨S8192x5120, .f32⟩
  | 19 => ⟨S4x2048x5120, .f32⟩
  | 20 => ⟨S4x2048x1024, .f32⟩
  | 21 => ⟨S4x2048x1024, .f32⟩
  | 22 => ⟨S4x2048x1024, .f32⟩
  | 23 => ⟨S_, .f32⟩
  | 24 => ⟨S4x2048x1024, .f32⟩
  | 25 => ⟨S4x2048x1024, .f32⟩
  | 26 => ⟨S4x2048x1024, .f32⟩
  | 27 => ⟨S_, .f32⟩
  | 28 => ⟨S4x2048x1024, .f32⟩
  | 29 => ⟨S4x2048x1024, .f32⟩
  | 30 => ⟨S4x2048x1024, .f32⟩
  | 31 => ⟨S_, .f32⟩
  | 32 => ⟨S4x2048x1024, .f32⟩
  | 33 => ⟨S4x2048x1024, .f32⟩
  | 34 => ⟨S_, .f32⟩
  | 35 => ⟨S4x2048x1024, .f32⟩
  | 36 => ⟨S4x2048x1024, .f32⟩
  | 37 => ⟨S4x2048x1024, .f32⟩
  | 38 => ⟨S4x2048x1024, .f32⟩
  | 39 => ⟨S4x2048x1024, .f32⟩
  | 40 => ⟨S4x2048x1024, .f32⟩
  | 41 => ⟨S_, .f32⟩
  | 42 => ⟨S4x2048x1024, .f32⟩
  | 43 => ⟨S4x2048x1024, .f32⟩
  | 44 => ⟨S4x2048x1024, .f32⟩
  | 45 => ⟨S_, .f32⟩
  | 46 => ⟨S4x2048x1024, .f32⟩
  | 47 => ⟨S4x2048x1024, .f32⟩
  | 48 => ⟨S4x2048x1024, .f32⟩
  | 49 => ⟨S_, .f32⟩
  | 50 => ⟨S4x2048x1024, .f32⟩
  | 51 => ⟨S4x2048x1024, .f32⟩
  | 52 => ⟨S_, .f32⟩
  | 53 => ⟨S4x2048x1024, .f32⟩
  | 54 => ⟨S4x2048x1024, .f32⟩
  | 55 => ⟨S4x2048x1024, .f32⟩
  | 56 => ⟨S_, .f32⟩
  | 57 => ⟨S4x2048, .f32⟩
  | 58 => ⟨S4x2048x1, .f32⟩
  | 59 => ⟨S_, .f32⟩
  | 60 => ⟨S4x2048x1, .f32⟩
  | 61 => ⟨S4x2048x1, .f32⟩
  | 62 => ⟨S4x2048x1024, .f32⟩
  | 63 => ⟨S4x2048x1024, .f32⟩
  | 64 => ⟨S4x2048x1024, .f32⟩
  | 65 => ⟨S_, .f32⟩
  | 66 => ⟨S4x2048, .f32⟩
  | 67 => ⟨S4x2048x1, .f32⟩
  | 68 => ⟨S_, .f32⟩
  | 69 => ⟨S4x2048x1, .f32⟩
  | 70 => ⟨S4x2048x1, .f32⟩
  | 71 => ⟨S_, .f32⟩
  | 72 => ⟨S4x2048x1, .f32⟩
  | 73 => ⟨S4x2048x1, .f32⟩
  | 74 => ⟨S4x2048x1, .f32⟩
  | 75 => ⟨S4x2048x1024, .f32⟩
  | 76 => ⟨S4x2048x1024, .f32⟩
  | 77 => ⟨S1x1x1024, .f32⟩
  | 78 => ⟨S4x2048x1024, .f32⟩
  | 79 => ⟨S4x2048x1024, .f32⟩
  | 80 => ⟨S1x1x1024, .f32⟩
  | 81 => ⟨S4x2048x1024, .f32⟩
  | 82 => ⟨S4x2048x1024, .f32⟩
  | 83 => ⟨S4x2048x8x128, .f32⟩
  | 84 => ⟨S4x2048x8x128, .f32⟩
  | 85 => ⟨S4x16x128x8x128, .f32⟩
  | 86 => ⟨S_, .i1⟩
  | 87 => ⟨S128x128, .i1⟩
  | 88 => ⟨S128x128, .i32⟩
  | 89 => ⟨S_, .i32⟩
  | 90 => ⟨S128x128, .i32⟩
  | 91 => ⟨S128x128, .i32⟩
  | 92 => ⟨S128x128, .i32⟩
  | 93 => ⟨S128x128, .i1⟩
  | 94 => ⟨S_, .i1⟩
  | 95 => ⟨S128x128, .i1⟩
  | 96 => ⟨S128x128, .i1⟩
  | 97 => ⟨S1x128x128, .i1⟩
  | 98 => ⟨S_, .f32⟩
  | 99 => ⟨S_, .f32⟩
  | 100 => ⟨S8x128x128, .i1⟩
  | 101 => ⟨S8x128x128, .f32⟩
  | 102 => ⟨S8x128x128, .f32⟩
  | 103 => ⟨S8x4x16x128x128, .f32⟩
  | 104 => ⟨S4x16x128x8x128, .f32⟩
  | 105 => ⟨S128x8, .f32⟩
  | 106 => ⟨S1x1x128x8x1, .f32⟩
  | 107 => ⟨S4x16x128x8x128, .f32⟩
  | 108 => ⟨S4x16x128x8x128, .f32⟩
  | 109 => ⟨S4x2048x8x128, .f32⟩
  | 110 => ⟨S4x2048x8x128, .f32⟩
  | 111 => ⟨S4x2048x1024, .f32⟩
  | 112 => ⟨S4x2048x1024, .f32⟩
  | 113 => ⟨S_, .f32⟩
  | 114 => ⟨S4x2048, .f32⟩
  | 115 => ⟨S4x2048x1, .f32⟩
  | 116 => ⟨S_, .f32⟩
  | 117 => ⟨S4x2048x1, .f32⟩
  | 118 => ⟨S4x2048x1, .f32⟩
  | 119 => ⟨S_, .f32⟩
  | 120 => ⟨S4x2048x1, .f32⟩
  | 121 => ⟨S4x2048x1, .f32⟩
  | 122 => ⟨S4x2048x1, .f32⟩
  | 123 => ⟨S4x2048x1024, .f32⟩
  | 124 => ⟨S4x2048x1024, .f32⟩
  | 125 => ⟨S1x1x1024, .f32⟩
  | 126 => ⟨S4x2048x1024, .f32⟩
  | 127 => ⟨S4x2048x1024, .f32⟩
  | _ => ⟨S4x2048x2048, .f32⟩

abbrev hbmTy0_1 (i : Nat) : BufTy := match i % 128 with
  | 0 => ⟨S8192x1024, .f32⟩
  | 1 => ⟨S4x2048x1024, .f32⟩
  | 2 => ⟨S4x2048x2048, .f32⟩
  | 3 => ⟨S4x2048x2048, .f32⟩
  | 4 => ⟨S4x2048x2048, .f32⟩
  | 5 => ⟨S8192x2048, .f32⟩
  | 6 => ⟨S8192x1024, .f32⟩
  | 7 => ⟨S1024x5120, .f32⟩
  | 8 => ⟨S128x8x5120, .f32⟩
  | 9 => ⟨S128x8x1024, .f32⟩
  | 10 => ⟨S128x8x1024, .f32⟩
  | 11 => ⟨S128x8x1024, .f32⟩
  | 12 => ⟨S_, .f32⟩
  | 13 => ⟨S128x8x1024, .f32⟩
  | 14 => ⟨S128x8x1024, .f32⟩
  | 15 => ⟨S128x8x1024, .f32⟩
  | 16 => ⟨S_, .f32⟩
  | 17 => ⟨S128x8x1024, .f32⟩
  | 18 => ⟨S128x8x1024, .f32⟩
  | 19 => ⟨S128x8x1024, .f32⟩
  | 20 => ⟨S_, .f32⟩
  | 21 => ⟨S128x8x1024, .f32⟩
  | 22 => ⟨S128x8x1024, .f32⟩
  | 23 => ⟨S_, .f32⟩
  | 24 => ⟨S128x8x1024, .f32⟩
  | 25 => ⟨S128x8x1024, .f32⟩
  | 26 => ⟨S128x8x1024, .f32⟩
  | 27 => ⟨S128x8x1024, .f32⟩
  | 28 => ⟨S128x8x1024, .f32⟩
  | 29 => ⟨S128x8x1024, .f32⟩
  | 30 => ⟨S_, .f32⟩
  | 31 => ⟨S128x8x1024, .f32⟩
  | 32 => ⟨S128x8x1024, .f32⟩
  | 33 => ⟨S128x8x1024, .f32⟩
  | 34 => ⟨S_, .f32⟩
  | 35 => ⟨S128x8x1024, .f32⟩
  | 36 => ⟨S128x8x1024, .f32⟩
  | 37 => ⟨S128x8x1024, .f32⟩
  | 38 => ⟨S_, .f32⟩
  | 39 => ⟨S128x8x1024, .f32⟩
  | 40 => ⟨S128x8x1024, .f32⟩
  | 41 => ⟨S_, .f32⟩
  | 42 => ⟨S128x8x1024, .f32⟩
  | 43 => ⟨S128x8x1024, .f32⟩
  | 44 => ⟨S128x8x1024, .f32⟩
  | 45 => ⟨S_, .f32⟩
  | 46 => ⟨S128x8, .f32⟩
  | 47 => ⟨S128x8x1, .f32⟩
  | 48 => ⟨S_, .f32⟩
  | 49 => ⟨S128x8x1, .f32⟩
  | 50 => ⟨S128x8x1, .f32⟩
  | 51 => ⟨S128x8x1024, .f32⟩
  | 52 => ⟨S128x8x1024, .f32⟩
  | 53 => ⟨S128x8x1024, .f32⟩
  | 54 => ⟨S_, .f32⟩
  | 55 => ⟨S128x8, .f32⟩
  | 56 => ⟨S128x8x1, .f32⟩
  | 57 => ⟨S_, .f32⟩
  | 58 => ⟨S128x8x1, .f32⟩
  | 59 => ⟨S128x8x1, .f32⟩
  | 60 => ⟨S_, .f32⟩
  | 61 => ⟨S128x8x1, .f32⟩
  | 62 => ⟨S128x8x1, .f32⟩
  | 63 => ⟨S128x8x1, .f32⟩
  | 64 => ⟨S128x8x1024, .f32⟩
  | 65 => ⟨S128x8x1024, .f32⟩
  | 66 => ⟨S1x1x1024, .f32⟩
  | 67 => ⟨S128x8x1024, .f32⟩
  | 68 => ⟨S128x8x1024, .f32⟩
  | 69 => ⟨S1x1x1024, .f32⟩
  | 70 => ⟨S128x8x1024, .f32⟩
  | 71 => ⟨S128x8x1024, .f32⟩
  | 72 => ⟨S128x8x8x128, .f32⟩
  | 73 => ⟨S128x8x8x128, .f32⟩
  | 74 => ⟨S128x1x8x8x128, .f32⟩
  | 75 => ⟨S_, .i1⟩
  | 76 => ⟨S8x8, .i1⟩
  | 77 => ⟨S8x8, .i32⟩
  | 78 => ⟨S_, .i32⟩
  | 79 => ⟨S8x8, .i32⟩
  | 80 => ⟨S8x8, .i32⟩
  | 81 => ⟨S8x8, .i32⟩
  | 82 => ⟨S8x8, .i1⟩
  | 83 => ⟨S_, .i1⟩
  | 84 => ⟨S8x8, .i1⟩
  | 85 => ⟨S8x8, .i1⟩
  | 86 => ⟨S1x8x8, .i1⟩
  | 87 => ⟨S8x8x8, .f32⟩
  | 88 => ⟨S_, .f32⟩
  | 89 => ⟨S_, .f32⟩
  | 90 => ⟨S8x8x8, .i1⟩
  | 91 => ⟨S8x8x8, .f32⟩
  | 92 => ⟨S8x8x8, .f32⟩
  | 93 => ⟨S8x128x1x128x8, .f32⟩
  | 94 => ⟨S128x1x8x8x128, .f32⟩
  | 95 => ⟨S8x8, .f32⟩
  | 96 => ⟨S8x8, .f32⟩
  | 97 => ⟨S1x1x8x8x1, .f32⟩
  | 98 => ⟨S128x1x8x8x128, .f32⟩
  | 99 => ⟨S128x1x8x8x128, .f32⟩
  | 100 => ⟨S128x8x8x128, .f32⟩
  | 101 => ⟨S128x8x8x128, .f32⟩
  | 102 => ⟨S128x8x1024, .f32⟩
  | 103 => ⟨S128x8x1024, .f32⟩
  | 104 => ⟨S_, .f32⟩
  | 105 => ⟨S128x8, .f32⟩
  | 106 => ⟨S128x8x1, .f32⟩
  | 107 => ⟨S_, .f32⟩
  | 108 => ⟨S128x8x1, .f32⟩
  | 109 => ⟨S128x8x1, .f32⟩
  | 110 => ⟨S_, .f32⟩
  | 111 => ⟨S128x8x1, .f32⟩
  | 112 => ⟨S128x8x1, .f32⟩
  | 113 => ⟨S128x8x1, .f32⟩
  | 114 => ⟨S128x8x1024, .f32⟩
  | 115 => ⟨S128x8x1024, .f32⟩
  | 116 => ⟨S1x1x1024, .f32⟩
  | 117 => ⟨S128x8x1024, .f32⟩
  | 118 => ⟨S128x8x1024, .f32⟩
  | 119 => ⟨S1024x1024, .f32⟩
  | 120 => ⟨S128x8x1024, .f32⟩
  | 121 => ⟨S128x8x2048, .f32⟩
  | 122 => ⟨S128x8x2048, .f32⟩
  | 123 => ⟨S128x8x2048, .f32⟩
  | 124 => ⟨S1024x2048, .f32⟩
  | 125 => ⟨S1024x1024, .f32⟩
  | 126 => ⟨S9216x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c : Ref sig .tc := ⟨.hbm, 86, rfl⟩
abbrev main_v61 : Ref sig .tc := ⟨.hbm, 87, rfl⟩
abbrev main_call0_v0 : Ref sig .tc := ⟨.hbm, 88, rfl⟩
abbrev main_call0_c : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_c_0 : Ref sig .tc := ⟨.hbm, 94, rfl⟩
abbrev main_call0_v5 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_13 : Ref sig .tc := ⟨.hbm, 113, rfl⟩
abbrev main_v75 : Ref sig .tc := ⟨.hbm, 114, rfl⟩
abbrev main_v76 : Ref sig .tc := ⟨.hbm, 115, rfl⟩
abbrev main_cst_14 : Ref sig .tc := ⟨.hbm, 116, rfl⟩
abbrev main_v77 : Ref sig .tc := ⟨.hbm, 117, rfl⟩
abbrev main_v78 : Ref sig .tc := ⟨.hbm, 118, rfl⟩
abbrev main_cst_15 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_16 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_17 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_18 : Ref sig .tc := ⟨.hbm, 148, rfl⟩
abbrev main_v105 : Ref sig .tc := ⟨.hbm, 149, rfl⟩
abbrev main_v106 : Ref sig .tc := ⟨.hbm, 150, rfl⟩
abbrev main_cst_19 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_20 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_21 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_22 : Ref sig .tc := ⟨.hbm, 166, rfl⟩
abbrev main_v119 : Ref sig .tc := ⟨.hbm, 167, rfl⟩
abbrev main_v120 : Ref sig .tc := ⟨.hbm, 168, rfl⟩
abbrev main_cst_23 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_24 : Ref sig .tc := ⟨.hbm, 173, rfl⟩
abbrev main_v124 : Ref sig .tc := ⟨.hbm, 174, rfl⟩
abbrev main_v125 : Ref sig .tc := ⟨.hbm, 175, rfl⟩
abbrev main_cst_25 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_26 : Ref sig .tc := ⟨.hbm, 182, rfl⟩
abbrev main_v131 : Ref sig .tc := ⟨.hbm, 183, rfl⟩
abbrev main_v132 : Ref sig .tc := ⟨.hbm, 184, rfl⟩
abbrev main_cst_27 : Ref sig .tc := ⟨.hbm, 185, rfl⟩
abbrev main_v133 : Ref sig .tc := ⟨.hbm, 186, rfl⟩
abbrev main_v134 : Ref sig .tc := ⟨.hbm, 187, rfl⟩
abbrev main_cst_28 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_c_29 : Ref sig .tc := ⟨.hbm, 203, rfl⟩
abbrev main_v149 : Ref sig .tc := ⟨.hbm, 204, rfl⟩
abbrev main_call2_v0 : Ref sig .tc := ⟨.hbm, 205, rfl⟩
abbrev main_call2_c : Ref sig .tc := ⟨.hbm, 206, rfl⟩
abbrev main_call2_v1 : Ref sig .tc := ⟨.hbm, 207, rfl⟩
abbrev main_call2_v2 : Ref sig .tc := ⟨.hbm, 208, rfl⟩
abbrev main_call2_v3 : Ref sig .tc := ⟨.hbm, 209, rfl⟩
abbrev main_call2_v4 : Ref sig .tc := ⟨.hbm, 210, rfl⟩
abbrev main_call2_c_0 : Ref sig .tc := ⟨.hbm, 211, rfl⟩
abbrev main_call2_v5 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_cst_30 : Ref sig .tc := ⟨.hbm, 216, rfl⟩
abbrev main_call3_v0 : Ref sig .tc := ⟨.hbm, 217, rfl⟩
abbrev main_call3_v1 : Ref sig .tc := ⟨.hbm, 218, rfl⟩
abbrev main_call3_v2 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_cst_31 : Ref sig .tc := ⟨.hbm, 232, rfl⟩
abbrev main_v165 : Ref sig .tc := ⟨.hbm, 233, rfl⟩
abbrev main_v166 : Ref sig .tc := ⟨.hbm, 234, rfl⟩
abbrev main_cst_32 : Ref sig .tc := ⟨.hbm, 235, rfl⟩
abbrev main_v167 : Ref sig .tc := ⟨.hbm, 236, rfl⟩
abbrev main_v168 : Ref sig .tc := ⟨.hbm, 237, rfl⟩
abbrev main_cst_33 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩

abbrev nD : Nat := 1
abbrev τ : Topo := Topo.v7x

variable {F : FTy → Type} [FloatOps F]
-- ==== Kernel5.lean ====
abbrev S128x8x2048 : Shape := ⟨3, ![128, 8, 2048]⟩
abbrev S1x2048 : Shape := ⟨2, ![1, 2048]⟩
abbrev S1x2048x5136 : Shape := ⟨3, ![1, 2048, 5136]⟩
abbrev S1x5136x2048 : Shape := ⟨3, ![1, 5136, 2048]⟩
abbrev S5136x2048 : Shape := ⟨2, ![5136, 2048]⟩
abbrev S1024x2048 : Shape := ⟨2, ![1024, 2048]⟩
abbrev S2048 : Shape := ⟨1, ![2048]⟩
abbrev S1024x5120 : Shape := ⟨2, ![1024, 5120]⟩
abbrev S1024x128 : Shape := ⟨2, ![1024, 128]⟩
abbrev S5120x2048 : Shape := ⟨2, ![5120, 2048]⟩
abbrev S128x2048 : Shape := ⟨2, ![128, 2048]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S128x8x2048, .f32⟩
  | .hbm, ⟨1, _⟩ => ⟨S1x2048, .f32⟩
  | .hbm, ⟨2, _⟩ => ⟨S1x2048x5136, .f32⟩
  | .hbm, ⟨3, _⟩ => ⟨S1x5136x2048, .f32⟩
  | .hbm, ⟨4, _⟩ => ⟨S5136x2048, .f32⟩
  | .hbm, ⟨5, _⟩ => ⟨S1024x2048, .f32⟩
  | .hbm, ⟨6, _⟩ => ⟨S2048, .f32⟩
  | .hbm, ⟨7, _⟩ => ⟨S1x2048, .f32⟩
  | .hbm, ⟨8, _⟩ => ⟨S1024x5120, .bf16⟩
  | .hbm, ⟨9, _⟩ => ⟨S1024x128, .f32⟩
  | .hbm, ⟨10, _⟩ => ⟨S5120x2048, .bf16⟩
  | .hbm, ⟨11, _⟩ => ⟨S128x2048, .bf16⟩
  | .local _ .vmem, ⟨0, _⟩ => ⟨S1024x2048, .f32⟩
  | .local _ .vmem, ⟨1, _⟩ => ⟨S1x2048, .f32⟩
  | .local _ .vmem, ⟨2, _⟩ => ⟨S1024x2048, .f32⟩
  | .local _ .vmem, ⟨3, _⟩ => ⟨S1024x2048, .f32⟩
  | .local _ .vmem, ⟨4, _⟩ => ⟨S128x2048, .f32⟩
  | .local _ .vmem, ⟨5, _⟩ => ⟨S1024x1024, .bf16⟩
  | .local _ .vmem, ⟨6, _⟩ => ⟨S1024x1024, .bf16⟩
  | .local _ .vmem, ⟨7, _⟩ => ⟨S1024x128, .f32⟩
  | .local _ .vmem, ⟨8, _⟩ => ⟨S1024x2048, .bf16⟩
  | .local _ .vmem, ⟨9, _⟩ => ⟨S1024x2048, .bf16⟩
  | .local _ .vmem, ⟨10, _⟩ => ⟨S128x2048, .bf16⟩
  | .local _ .vmem, ⟨11, _⟩ => ⟨S1024x2048, .bf16⟩
  | .local _ .vmem, ⟨12, _⟩ => ⟨S1024x1, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨2, ![1, 5], ![false, false]⟩

def k0_mult1 (i : grid0.Coords) : BitVec 32 :=
  let arg1 : BitVec 32 := BitVec.ofNat 32 (i 1).val
  let c3_i32 : BitVec 32 := 3#32
  let v0 : BitVec 1 := Scalar.cmpi .slt arg1 c3_i32
  let c1024_i32 : BitVec 32 := 1024#32
  let v1 : BitVec 32 := Scalar.muli arg1 c1024_i32
  let c3088_i32 : BitVec 32 := 3088#32
  let c3_i32_0 : BitVec 32 := 3#32
  let v2 : BitVec 32 := Scalar.subi arg1 c3_i32_0
  let c1024_i32_1 : BitVec 32 := 1024#32
  let v3 : BitVec 32 := Scalar.muli v2 c1024_i32_1
  let v4 : BitVec 32 := Scalar.addi c3088_i32 v3
  let v5 : BitVec 32 := Scalar.select v0 v1 v4
  v5
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg1 c3_i32
  let c1024_i32 : BitVec 32 := 1024#32
  let v1 : BitVec 32 := Scalar.muli arg1 c1024_i32
  let c3_i32_0 : BitVec 32 := 3#32
  let v2 : BitVec 32 := Scalar.subi arg1 c3_i32_0
  let c1024_i32_1 : BitVec 32 := 1024#32
  let v3 : BitVec 32 := Scalar.muli v2 c1024_i32_1
  let c3088_i32 : BitVec 32 := 3088#32
  let v4 : BitVec 32 := Scalar.addi c3088_i32 v3
  let v5 : BitVec 32 := Scalar.select v0 v1 v4
  let v6 : BitVec 32 := v5
  let c0_i32 : BitVec 32 := 0#32
  let c0_i32_2 : BitVec 32 := 0#32
  ![v6.toNat, c0_i32.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let c0_i32 : BitVec 32 := 0#32
  let c0_i32_0 : BitVec 32 := 0#32
  ![c24_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference5Ideal.lean ====
abbrev S128x8x2048 : Shape := ⟨3, ![128, 8, 2048]⟩
abbrev S1x2048 : Shape := ⟨2, ![1, 2048]⟩
abbrev S1x2048x5136 : Shape := ⟨3, ![1, 2048, 5136]⟩
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S2048x5136 : Shape := ⟨2, ![2048, 5136]⟩
abbrev S1024x5136 : Shape := ⟨2, ![1024, 5136]⟩
abbrev S5136x2048 : Shape := ⟨2, ![5136, 2048]⟩
abbrev S1024x3072 : Shape := ⟨2, ![1024, 3072]⟩
abbrev S1024x5120 : Shape := ⟨2, ![1024, 5120]⟩
abbrev S1024x128 : Shape := ⟨2, ![1024, 128]⟩
abbrev S3072x2048 : Shape := ⟨2, ![3072, 2048]⟩
abbrev S2048x2048 : Shape := ⟨2, ![2048, 2048]⟩
abbrev S5120x2048 : Shape := ⟨2, ![5120, 2048]⟩
abbrev S128x2048 : Shape := ⟨2, ![128, 2048]⟩

abbrev nBuf : Space → Nat
  | .hbm => 36
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x2048, .f32⟩
  | .hbm, ⟨2, _⟩ => ⟨S1x2048x5136, .f32⟩
  | .hbm, ⟨3, _⟩ => ⟨S1024x2048, .f32⟩
  | .hbm, ⟨4, _⟩ => ⟨S2048, .f32⟩
  | .hbm, ⟨5, _⟩ => ⟨S1024x2048, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x2048, .f32⟩
  | .hbm, ⟨17, _⟩ => ⟨S1024x2048, .f32⟩
  | .hbm, ⟨18, _⟩ => ⟨S1x2048, .f32⟩
  | .hbm, ⟨19, _⟩ => ⟨S1024x2048, .f32⟩
  | .hbm, ⟨20, _⟩ => ⟨S1024x2048, .f32⟩
  | .hbm, ⟨21, _⟩ => ⟨S2048x5136, .f32⟩
  | .hbm, ⟨22, _⟩ => ⟨S1024x5136, .f32⟩
  | .hbm, ⟨23, _⟩ => ⟨S2048x5136, .f32⟩
  | .hbm, ⟨24, _⟩ => ⟨S5136x2048, .f32⟩
  | .hbm, ⟨25, _⟩ => ⟨S1024x3072, .f32⟩
  | .hbm, ⟨26, _⟩ => ⟨S1024x2048, .f32⟩
  | .hbm, ⟨27, _⟩ => ⟨S1024x5120, .f32⟩
  | .hbm, ⟨28, _⟩ => ⟨S1024x5120, .bf16⟩
  | .hbm, ⟨29, _⟩ => ⟨S1024x128, .f32⟩
  | .hbm, ⟨30, _⟩ => ⟨S3072x2048, .f32⟩
  | .hbm, ⟨31, _⟩ => ⟨S2048x2048, .f32⟩
  | .hbm, ⟨32, _⟩ => ⟨S5120x2048, .f32⟩
  | .hbm, ⟨33, _⟩ => ⟨S5120x2048, .bf16⟩
  | .hbm, ⟨34, _⟩ => ⟨S128x2048, .f32⟩
  | .hbm, ⟨35, _⟩ => ⟨S128x2048, .bf16⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Proof.Ffn.Tile.lean ====
/- The feed-forward call: what one grid point computes, read at an index. -/
module

public import proofs.«01_k».proof.Proof.Gen.Kernel2Ideal.Skeleton
public import Idealize.ShloMosaic.Lib.Pointwise

@[expose] public section

set_option maxRecDepth 16384

noncomputable section

namespace Cert.Kernel2Ideal.Ffn

open Cert.Kernel2Ideal Cert.Kernel2Ideal.Gen Idealize.ShloMosaic

/-- `r = 1 / sqrt (mean of the squares of a row + eps)`. -/
def rinv (row : Fin 2048 → EReal) : EReal :=
  Ideal.rsqrt (Ideal.div (∑ k, row k * row k) (Ideal.ofBits .f32 0x45000000#32) + Ideal.ofBits .f32 0x358637BD#32)

/-- `x · 1 / (1 + exp (-x))`. -/
def silu (x : EReal) : EReal := x * Ideal.logistic x

/-- One column of the hidden layer for one row: the row's scale times the two products. -/
def hidden (r : EReal) (hb wg wu : Fin 2048 → EReal) : EReal :=
  silu (r * ∑ k, hb k * wg k) * (r * ∑ k, hb k * wu k)

theorem pay3_at (h : FVec Ideal S1024x2048 .f32) (g : FVec Ideal S1x2048 .f32) (a : Fin 1024) (b : Fin 2048) :
    k0_pay3 (F := Ideal) h g (ix2 a b) = h (ix2 a b) * g (ix2 0 b) := by
  pointwise [k0_pay3, k0_pay2]

theorem pay5_at (h : FVec Ideal S1024x2048 .f32) (a : Fin 1024) (b : Fin 1) :
    k0_pay5 (F := Ideal) h (ix2 a b) = rinv fun k => h (ix2 a k) := by
  pointwise [k0_pay5, k0_pay4, rinv]

/-- What a later point adds to the block of the result. -/
theorem pay1_at (acc : FVec Ideal S1024x2048 .f32) (hb : FVec Ideal S1024x2048 .bf16) (r : FVec Ideal S1024x1 .f32)
    (wg wu : FVec Ideal S2048x512 .bf16) (wo : FVec Ideal S512x2048 .bf16) (a : Fin 1024) (b : Fin 2048) :
    k0_pay1 (F := Ideal) acc hb r wg wu wo (ix2 a b) = acc (ix2 a b) +
      ∑ f : Fin 512, hidden (r (ix2 a 0)) (fun k => hb (ix2 a k)) (fun k => wg (ix2 k f)) (fun k => wu (ix2 k f))
        * wo (ix2 f b) := by
  pointwise [k0_pay1, hidden, silu]

/-- The first point of a run: the input's block and its own tile. -/
theorem pay6_at (h : FVec Ideal S1024x2048 .f32) (g : FVec Ideal S1x2048 .f32)
    (wg wu : FVec Ideal S2048x512 .bf16) (wo : FVec Ideal S512x2048 .bf16) (a : Fin 1024) (b : Fin 2048) :
    k0_pay6 (F := Ideal) h g wg wu wo (ix2 a b) = h (ix2 a b) +
      ∑ f : Fin 512, hidden (rinv fun k => h (ix2 a k)) (fun k => h (ix2 a k) * g (ix2 0 k)) (fun k => wg (ix2 k f))
        (fun k => wu (ix2 k f)) * wo (ix2 f b) := by
  pointwise [k0_pay6, k0_pay4, k0_pay2, hidden, silu, rinv]

end Cert.Kernel2Ideal.Ffn
-- ==== Proof.Ffn.Ref.lean ====
/- The feed-forward reference, read at an index, and the step that moves the row's scale out of the sums. -/
module

public import proofs.«01_k».proof.Proof.Gen.Reference2Ideal
public import proofs.«01_k».proof.Proof.Ffn.Tile
public import Idealize.ShloMosaic.Lib.Pointwise

@[expose] public section

set_option maxRecDepth 16384

noncomputable section

namespace Cert.Reference2Ideal.Ffn

open Cert.Reference2Ideal Cert.Reference2Ideal.Gen Idealize.ShloMosaic
open Cert.Kernel2Ideal.Ffn (rinv silu)

/-- The reference's result over its four arguments. -/
def REF (H : FVec Ideal S9216x2048 .f32) (G : FVec Ideal S1x2048 .f32) (W : FVec Ideal S1x2048x11264 .f32)
    (V : FVec Ideal S1x5632x2048 .f32) : FVec Ideal S9216x2048 .f32 :=
  addf H (Host.dotGeneral dot_S9216x5632_S5632x2048_S9216x2048_1_0_0_1_n_n none (mulf (mulf (extractStridedSlice S9216x5632 ![0, 0] (Host.dotGeneral dot_S9216x2048_S2048x11264_S9216x11264_1_0_0_1_n_n none (mulf (mulf H (broadcastInDim S9216x2048 ![0, 1] bcast_S9216x1_S9216x2048_0_1 (Host.rsqrt (addf (Host.divf (broadcastInDim S9216x1 ![0] bcast_S9216_S9216x1_0 (Host.reduceAdd (mulf H H) (constant S_ .f32 0x00000000#32) reducesTo_S9216x2048_S9216_d1 h_S_)) (broadcastInDim S9216x1 ![] bcast_S_S9216x1 (constant S_ .f32 0x45000000#32))) (broadcastInDim S9216x1 ![] bcast_S_S9216x1 (constant S_ .f32 0x358637BD#32)))))) (broadcastInDim S9216x2048 ![0, 1] bcast_S1x2048_S9216x2048_0_1 (broadcastInDim S1x2048 ![1] bcast_S2048_S1x2048_1 (shapeCast _ G shapeCasts_S1x2048_S2048)))) (shapeCast _ W shapeCasts_S1x2048x11264_S2048x11264)) slices_S9216x11264_S9216x5632_0_0) (Host.divf (broadcastInDim S9216x5632 ![] bcast_S_S9216x5632 (constant S_ .f32 0x3F800000#32)) (addf (broadcastInDim S9216x5632 ![] bcast_S_S9216x5632 (constant S_ .f32 0x3F800000#32)) (Host.exp (Host.negf (extractStridedSlice S9216x5632 ![0, 0] (Host.dotGeneral dot_S9216x2048_S2048x11264_S9216x11264_1_0_0_1_n_n none (mulf (mulf H (broadcastInDim S9216x2048 ![0, 1] bcast_S9216x1_S9216x2048_0_1 (Host.rsqrt (addf (Host.divf (broadcastInDim S9216x1 ![0] bcast_S9216_S9216x1_0 (Host.reduceAdd (mulf H H) (constant S_ .f32 0x00000000#32) reducesTo_S9216x2048_S9216_d1 h_S_)) (broadcastInDim S9216x1 ![] bcast_S_S9216x1 (constant S_ .f32 0x45000000#32))) (broadcastInDim S9216x1 ![] bcast_S_S9216x1 (constant S_ .f32 0x358637BD#32)))))) (broadcastInDim S9216x2048 ![0, 1] bcast_S1x2048_S9216x2048_0_1 (broadcastInDim S1x2048 ![1] bcast_S2048_S1x2048_1 (shapeCast _ G shapeCasts_S1x2048_S2048)))) (shapeCast _ W shapeCasts_S1x2048x11264_S2048x11264)) slices_S9216x11264_S9216x5632_0_0)))))) (extractStridedSlice S9216x5632 ![0, 5632] (Host.dotGeneral dot_S9216x2048_S2048x11264_S9216x11264_1_0_0_1_n_n none (mulf (mulf H (broadcastInDim S9216x2048 ![0, 1] bcast_S9216x1_S9216x2048_0_1 (Host.rsqrt (addf (Host.divf (broadcastInDim S9216x1 ![0] bcast_S9216_S9216x1_0 (Host.reduceAdd (mulf H H) (constant S_ .f32 0x00000000#32) reducesTo_S9216x2048_S9216_d1 h_S_)) (broadcastInDim S9216x1 ![] bcast_S_S9216x1 (constant S_ .f32 0x45000000#32))) (broadcastInDim S9216x1 ![] bcast_S_S9216x1 (constant S_ .f32 0x358637BD#32)))))) (broadcastInDim S9216x2048 ![0, 1] bcast_S1x2048_S9216x2048_0_1 (broadcastInDim S1x2048 ![1] bcast_S2048_S1x2048_1 (shapeCast _ G shapeCasts_S1x2048_S2048)))) (shapeCast _ W shapeCasts_S1x2048x11264_S2048x11264)) slices_S9216x11264_S9216x5632_0_5632)) (shapeCast _ V shapeCasts_S1x5632x2048_S5632x2048))

/-- One column of the reference's hidden layer: the normalised row times the two columns of the weights. -/
def hiddenRef (r : EReal) (h g wg wu : Fin 2048 → EReal) : EReal :=
  silu (∑ k, h k * r * g k * wg k) * ∑ k, h k * r * g k * wu k

theorem ref_at (H : FVec Ideal S9216x2048 .f32) (G : FVec Ideal S1x2048 .f32) (W : FVec Ideal S1x2048x11264 .f32)
    (V : FVec Ideal S1x5632x2048 .f32) (a : Fin 9216) (b : Fin 2048) :
    REF H G W V (ix2 a b) = H (ix2 a b) + ∑ f : Fin 5632,
      hiddenRef (rinv fun k => H (ix2 a k)) (fun k => H (ix2 a k)) (fun k => G (ix2 0 k))
        (fun k => W (ix3 0 k ⟨f.val, by omega⟩)) (fun k => W (ix3 0 k ⟨5632 + f.val, by omega⟩)) * V (ix3 0 f b) := by
  pointwise [REF, hiddenRef, rinv, silu, Ideal.logistic]

/-- A square is not negative. -/
theorem sq_nonneg (x : EReal) : 0 ≤ x * x := by
  induction x with
  | bot => simp
  | top => simp
  | coe x => exact_mod_cast mul_self_nonneg x

/-- A number `x` with `0 ≤ x`, plus the (positive) eps, has a reciprocal root that is a nonnegative real. -/
theorem rsqrt_fin (x : EReal) (hx : 0 < x) : 0 ≤ Ideal.rsqrt x ∧ Ideal.rsqrt x ≠ ⊤ := by
  induction x with
  | bot => simp at hx
  | top => simp
  | coe x =>
    have hx : 0 < x := by exact_mod_cast hx
    rw [Ideal.rsqrt_coe, if_neg (not_lt.mpr hx.le), if_neg hx.ne']
    exact ⟨by exact_mod_cast inv_nonneg.mpr (Real.sqrt_nonneg x), EReal.coe_ne_top _⟩

theorem mul_sum (r : EReal) (h0 : 0 ≤ r) (h1 : r ≠ ⊤) {n : Nat} (f : Fin n → EReal) :
    r * ∑ k, f k = ∑ k, r * f k := by
  induction (Finset.univ : Finset (Fin n)) using Finset.induction_on with
  | empty => simp
  | insert a s ha ih => rw [Finset.sum_insert ha, Finset.sum_insert ha, EReal.left_distrib_of_nonneg_of_ne_top h0 h1, ih]

/-- The eps the mean is shifted by is positive. -/
theorem eps_pos : (0 : EReal) < Ideal.ofBits .f32 0x358637BD#32 := by
  simp [Ideal.ofBits, Ideal.ieee, -EReal.coe_mul]

/-- The number of columns, as the program writes it. -/
theorem n_pos : Ideal.ofBits .f32 0x45000000#32 = ((2048 : ℝ) : EReal) := by
  simp [Ideal.ofBits, Ideal.ieee, -EReal.coe_mul]; norm_num

/-- A nonnegative number divided by the number of columns is nonnegative. -/
theorem div_n_nonneg (s : EReal) (hs : 0 ≤ s) : 0 ≤ Ideal.div s (Ideal.ofBits .f32 0x45000000#32) := by
  have h2 : ((2048 : ℝ) : EReal) ≠ 0 := by norm_cast
  rw [n_pos, Ideal.div, if_neg h2]
  exact mul_nonneg hs (EReal.inv_nonneg_of_nonneg (by norm_cast))

theorem rinv_fin (row : Fin 2048 → EReal) : 0 ≤ rinv row ∧ rinv row ≠ ⊤ := by
  refine rsqrt_fin _ ?_
  have hs : 0 ≤ ∑ k, row k * row k := Finset.sum_nonneg fun k _ => sq_nonneg _
  exact lt_of_lt_of_le eps_pos (le_add_of_nonneg_left (div_n_nonneg _ hs))

theorem hidden_eq (row g wg wu : Fin 2048 → EReal) :
    Cert.Kernel2Ideal.Ffn.hidden (rinv row) (fun k => row k * g k) wg wu = hiddenRef (rinv row) row g wg wu := by
  obtain ⟨h0, h1⟩ := rinv_fin row
  generalize rinv row = r at h0 h1
  unfold Cert.Kernel2Ideal.Ffn.hidden hiddenRef
  rw [mul_sum r h0 h1, mul_sum r h0 h1]
  have e : ∀ w : Fin 2048 → EReal, (∑ k, r * (row k * g k * w k)) = ∑ k, row k * r * g k * w k := fun w =>
    Finset.sum_congr rfl fun k _ => by rw [← mul_assoc, ← mul_assoc, mul_comm r (row k)]
  rw [e, e]

end Cert.Reference2Ideal.Ffn
-- ==== Proof.Ffn.Value.lean ====
/- The feed-forward call: its result array is the reference's. -/
module

public import proofs.«01_k».proof.Proof.Gen.Kernel2Ideal.Value
public import proofs.«01_k».proof.Proof.Ffn.Ref
public import Idealize.ShloMosaic.Lib.Pipeline.ValueKit
public import Idealize.ShloMosaic.Lib.Claim

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)
open Cert.Reference2Ideal.Ffn (REF ref_at hiddenRef hidden_eq)

variable (m : (ℓ : Loc nD τ sig) → Buf (Elt Ideal) ℓ)

theorem idx : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0]
    ∧ win0_5.index t = ![t.val / 11, 0] :=
  (by decide +kernel : ∀ t : Fin grid0.N, _)

/-- The four arguments. -/
abbrev aH (c : Dev nD) : FVec Ideal S9216x2048 .f32 := m ((c : Thread nD τ).loc main_arg0)
abbrev aG (c : Dev nD) : FVec Ideal S1x2048 .f32 := m ((c : Thread nD τ).loc main_arg1)
abbrev aW (c : Dev nD) : FVec Ideal S1x2048x11264 .f32 := m ((c : Thread nD τ).loc main_arg2)
abbrev aV (c : Dev nD) : FVec Ideal S1x5632x2048 .f32 := m ((c : Thread nD τ).loc main_arg3)

/-- The five input blocks of point `t`. -/
abbrev b0 (c : Dev nD) (t : Fin cfg0.N) : FVec Ideal S1024x2048 .f32 := iblk m c 0 t
abbrev b1 (c : Dev nD) (t : Fin cfg0.N) : FVec Ideal S1x2048 .f32 := iblk m c 1 t
abbrev b2 (c : Dev nD) (t : Fin cfg0.N) : FVec Ideal S2048x512 .bf16 := iblk m c 2 t
abbrev b3 (c : Dev nD) (t : Fin cfg0.N) : FVec Ideal S2048x512 .bf16 := iblk m c 3 t
abbrev b4 (c : Dev nD) (t : Fin cfg0.N) : FVec Ideal S512x2048 .bf16 := iblk m c 4 t

theorem lt99 (t : Fin cfg0.N) : t.val < 99 := t.isLt

/-! The five input blocks of a point, as parts of the arguments. -/

theorem read0 (c : Dev nD) (t : Fin cfg0.N) (a : Fin 1024) (k : Fin 2048) :
    b0 m c t (ix2 a k) = aH m c (ix2 ⟨1024 * (t.val / 11) + a.val, by have := lt99 t; omega⟩ k) := by
  blk_ext [b0, iblk, V, idx t]

theorem read1 (c : Dev nD) (t : Fin cfg0.N) (k : Fin 2048) : b1 m c t (ix2 0 k) = aG m c (ix2 0 k) := by
  blk_simp [b0, b1, b2, b3, b4, iblk, idx t]
  entry_read
  pointwise
  blk_ext [idx t]

theorem read2 (c : Dev nD) (t : Fin cfg0.N) (k : Fin 2048) (f : Fin 512) :
    b2 m c t (ix2 k f) = aW m c (ix3 0 k ⟨512 * (t.val % 11) + f.val, by omega⟩) := by
  blk_simp [b0, b1, b2, b3, b4, iblk, idx t]
  entry_read
  pointwise
  blk_ext [idx t]

theorem read3 (c : Dev nD) (t : Fin cfg0.N) (k : Fin 2048) (f : Fin 512) :
    b3 m c t (ix2 k f) = aW m c (ix3 0 k ⟨5632 + (512 * (t.val % 11) + f.val), by omega⟩) := by
  blk_simp [b0, b1, b2, b3, b4, iblk, idx t]
  entry_read
  pointwise
  blk_ext [idx t]

theorem read4 (c : Dev nD) (t : Fin cfg0.N) (f : Fin 512) (b : Fin 2048) :
    b4 m c t (ix2 f b) = aV m c (ix3 0 ⟨512 * (t.val % 11) + f.val, by omega⟩ b) := by
  blk_simp [b0, b1, b2, b3, b4, iblk, idx t]
  entry_read
  pointwise
  blk_ext [idx t]

/-- The points of a run see the same block of rows. -/
theorem row_eq (c : Dev nD) (t t' : Fin cfg0.N) (h : t.val / 11 = t'.val / 11) (y : S1024x2048.Idx) : b0 m c t y = b0 m c t' y := by
  idx_vars y
  rw [read0, read0]
  congr 2
  exact Fin.ext (by dsimp only; rw [h])

/-- What the two scratch buffers hold after every point: the scaled rows and the rows' scales of the point's block of rows. -/
theorem scratch (c : Dev nD) : ∀ (n : Nat) (hn : n < cfg0.N),
    (∀ a k, (outsAt0 m c n hn).2.1 (ix2 a k) = b0 m c ⟨n, hn⟩ (ix2 a k) * aG m c (ix2 0 k)) ∧
    (∀ a, (outsAt0 m c n hn).2.2 (ix2 a 0) = rinv fun k => b0 m c ⟨n, hn⟩ (ix2 a k)) := by
  intro n
  induction n with
  | zero =>
    intro hn
    have e := outsAt0_A m c ⟨0, hn⟩ (by rfl) (by norm_num)
    rw [show outsAt0 m c 0 hn = _ from e]
    constructor
    · intro a k
      frame_out
      rw [pay3_at]
      exact congrArg (b0 m c _ (ix2 a k) * ·) (read1 m c _ k)
    · intro a
      frame_out
      rw [pay5_at]
  | succ n ih =>
    intro hn
    by_cases h : (n + 1) % 11 = 0
    · have e := outsAt0_A m c ⟨n + 1, hn⟩ h (by dsimp only; omega)
      rw [show outsAt0 m c (n + 1) hn = _ from e]
      constructor
      · intro a k
        frame_out
        rw [pay3_at]
        exact congrArg (b0 m c _ (ix2 a k) * ·) (read1 m c _ k)
      · intro a
        frame_out
        rw [pay5_at]
    · have e := outsAt0_B m c ⟨n + 1, hn⟩ h (by dsimp only; omega)
      rw [show outsAt0 m c (n + 1) hn = _ from e]
      have hb : ∀ a k, b0 m c ⟨n, Nat.lt_of_succ_lt hn⟩ (ix2 a k) = b0 m c ⟨n + 1, hn⟩ (ix2 a k) := by
        intro a k
        rw [read0, read0]
        congr 2
        apply Fin.ext
        dsimp only
        omega
      obtain ⟨h1, h2⟩ := ih (Nat.lt_of_succ_lt hn)
      constructor
      · intro a k
        rw [← hb, ← h1]
        rfl
      · intro a
        simp only [← hb]
        rw [← h2]
        rfl

/-- What point `t` adds to the result at row `a`, column `b`. -/
def term (c : Dev nD) (t : Fin cfg0.N) (y : S1024x2048.Idx) : EReal :=
  ∑ f : Fin 512, hidden (rinv fun k => b0 m c t (ix2 (y 0) k)) (fun k => b0 m c t (ix2 (y 0) k) * aG m c (ix2 0 k))
    (fun k => b2 m c t (ix2 k f)) (fun k => b3 m c t (ix2 k f)) * b4 m c t (ix2 f (y 1))

theorem out_A (c : Dev nD) (t : Fin cfg0.N) (h : t.val % 11 = 0) (y : S1024x2048.Idx) :
    (outsAt0 m c t.val t.isLt).1 y = b0 m c t y + term m c t y := by
  idx_vars y
  rw [outsAt0_A m c t h (by omega)]
  frame_out
  rw [pay6_at]
  simp only [read1, term]
  rfl

theorem out_B (c : Dev nD) (t : Fin cfg0.N) (h : ¬t.val % 11 = 0) (y : S1024x2048.Idx) :
    (outsAt0 m c t.val t.isLt).1 y
      = (outsAt0 m c (t.val - 1) (Nat.lt_of_le_of_lt (Nat.sub_le _ _) t.isLt)).1 y + term m c t y := by
  idx_vars y
  rw [outsAt0_B m c t h (by omega)]
  frame_out
  rw [pay1_at]
  obtain ⟨h1, h2⟩ := scratch m c (t.val - 1) (Nat.lt_of_le_of_lt (Nat.sub_le _ _) t.isLt)
  have hb : ∀ a k, b0 m c ⟨t.val - 1, Nat.lt_of_le_of_lt (Nat.sub_le _ _) t.isLt⟩ (ix2 a k) = b0 m c t (ix2 a k) := by
    intro a k
    rw [read0, read0]
    congr 2
    apply Fin.ext
    dsimp only
    omega
  have e0 : View.read (Elt Ideal) (View.whole cc0_scratch0) ((Memref.isWhole_whole cc0_scratch0).unread
      (outsAt0 m c (t.val - 1) (Nat.lt_of_le_of_lt (Nat.sub_le _ _) t.isLt)).2.1) = _ := Memref.IsWhole.read_unread _ _
  have e1 : View.read (Elt Ideal) (View.whole cc0_scratch1) ((Memref.isWhole_whole cc0_scratch1).unread
      (outsAt0 m c (t.val - 1) (Nat.lt_of_le_of_lt (Nat.sub_le _ _) t.isLt)).2.2) = _ := Memref.IsWhole.read_unread _ _
  rw [e0, e1]
  simp only [h1, h2, hb, term]
  rfl

/-- What point `t` adds, the first point of a run counting the input's block too. -/
def term' (c : Dev nD) (t : Fin cfg0.N) (y : S1024x2048.Idx) : EReal :=
  if t.val % 11 = 0 then b0 m c t y + term m c t y else term m c t y

/-- After the last point of a run the block holds the input's block and the eleven tiles. -/
theorem out_last (c : Dev nD) (t : Fin cfg0.N) (ht : t.val % 11 = 10) (y : S1024x2048.Idx) :
    (outsAt0 m c t.val t.isLt).1 y = b0 m c t y + ∑ s : Fin 11, term m c ⟨11 * (t.val / 11) + s.val, by
      have := lt99 t; have : cfg0.N = 99 := rfl; omega⟩ y := by
  rw [Pipeline.eq_sum_fin_of_reset_step_apply_of_flush (fun n hn => (outsAt0 m c n hn).1) 11 (fun _ => (0 : EReal)) (term' m c)
    (fun t h i => by rw [out_A m c t h i, term', if_pos h, zero_add]) (fun t h i => by rw [out_B m c t h i, term', if_neg h]) t ht y,
    zero_add, Fin.sum_univ_succ, Fin.sum_univ_succ (n := 10)]
  have e : ∀ s : Fin 10, ¬(11 * (t.val / 11) + s.succ.val) % 11 = 0 := fun s => by
    have := s.isLt; simp only [Fin.val_succ]; omega
  have h0 : (11 * (t.val / 11) + (0 : Fin 11).val) % 11 = 0 := by simp
  unfold term'
  simp only [if_neg (e _), if_pos h0]
  rw [row_eq m c ⟨11 * (t.val / 11) + (0 : Fin 11).val, _⟩ t (by simp only [Fin.val_zero]; omega) y, add_assoc]

/-- The result array after the run is the reference's. -/
theorem final (c : Dev nD) : (dats m 0 c).arrAt 5 (cfgs 0).N = REF (aH m c) (aG m c) (aW m c) (aV m c) := by
  refine (dats m 0 c).arrAt_eq_of_covers 5 _ (by decide +kernel) fun t hf y => ?_
  blk_simp
  rw [after0_5]
  have ht := (flush0_5 t).mp hf
  obtain ⟨y0, y1, rfl⟩ : ∃ (y0 : Fin 1024) (y1 : Fin 2048), y = ix2 y0 y1 := ⟨y 0, y 1, by
    funext i; fin_cases i <;> rfl⟩
  refine (out_last m c t ht _).trans ?_
  have hemb : (win0_5.blk t).view.emb (ix2 y0 y1)
      = (ix2 ⟨1024 * (t.val / 11) + y0.val, by have := lt99 t; omega⟩ y1 : S9216x2048.Idx) := by
    blk_ext [idx t]
  rw [hemb, ref_at, read0, Fin.sum_univ_tiles 11 512 rfl]
  congr 1
  refine Finset.sum_congr rfl fun s _ => Finset.sum_congr rfl fun f _ => ?_
  rw [hidden_eq]
  have hr : ∀ k, b0 m c ⟨11 * (t.val / 11) + s.val, by have := lt99 t; have : cfg0.N = 99 := rfl; omega⟩ (ix2 y0 k)
      = aH m c (ix2 ⟨1024 * (t.val / 11) + y0.val, by have := lt99 t; omega⟩ k) := fun k => by
    rw [row_eq m c _ t (by dsimp only; omega) _, read0]
  have hm : (11 * (t.val / 11) + s.val) % 11 = s.val := by omega
  have hc : (⟨512 * ((11 * (t.val / 11) + s.val) % 11) + f.val, by omega⟩ : Fin 5632) = ⟨s.val * 512 + f.val, by omega⟩ :=
    Fin.ext (by dsimp only; omega)
  have h2 : ∀ k, b2 m c ⟨11 * (t.val / 11) + s.val, by have := lt99 t; have : cfg0.N = 99 := rfl; omega⟩ (ix2 k f)
      = aW m c (ix3 0 k ⟨s.val * 512 + f.val, by omega⟩) := fun k => by
    rw [read2]; exact congrArg (fun x => aW m c (ix3 0 k x)) (Fin.ext (by dsimp only; omega))
  have h3 : ∀ k, b3 m c ⟨11 * (t.val / 11) + s.val, by have := lt99 t; have : cfg0.N = 99 := rfl; omega⟩ (ix2 k f)
      = aW m c (ix3 0 k ⟨5632 + (s.val * 512 + f.val), by omega⟩) := fun k => by
    rw [read3]; exact congrArg (fun x => aW m c (ix3 0 k x)) (Fin.ext (by dsimp only; omega))
  have h4 : b4 m c ⟨11 * (t.val / 11) + s.val, by have := lt99 t; have : cfg0.N = 99 := rfl; omega⟩ (ix2 f y1)
      = aV m c (ix3 0 ⟨s.val * 512 + f.val, by omega⟩ y1) := by
    rw [read4]; exact congrArg (fun x => aV m c (ix3 0 x y1)) hc
  have e0 : (ix2 y0 y1 : S1024x2048.Idx) 0 = y0 := rfl
  have e1 : (ix2 y0 y1 : S1024x2048.Idx) 1 = y1 := rfl
  simp only [e0, e1, hr, h2, h3, h4]

end Cert.Kernel2Ideal.Ffn
-- ==== Proof.Ple.Base.lean ====
/- Where the two cases of the body hold and which windows each leaves alone. -/
module

public import proofs.«01_k».proof.Proof.Gen.Kernel3Ideal.Frame
public import proofs.«01_k».proof.Proof.Gen.Kernel3Ideal.Skeleton
public import proofs.«01_k».proof.Proof.Gen.Kernel3Ideal.Points
public import Idealize.ShloMosaic.Lib.Pipeline.TableIdle
public import Idealize.ShloMosaic.Lib.WordCmp
public import Idealize.ShloMosaic.Lib.Ring
public import Idealize.ShloMosaic.Lib.Tactic

@[expose] public section

set_option maxRecDepth 16384

noncomputable section

namespace Cert.Kernel3Ideal.Ple

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 16 — decided over the grid. -/
theorem hcond0_0 : ∀ t : Fin cfg0.N, cond0_0 (grid0.coords t) ↔ t.val < 16 :=
  (by decide +kernel : ∀ t : Fin grid0.N, cond0_0 (grid0.coords t) ↔ t.val < 16)

/-- The condition of the body's `scf.if` 1 (`k0_h2`), from the grid coordinates (the skeleton's scalar
    chain substituted). -/
abbrev cond0_1 (i : grid0.Coords) : Prop := k0_cond2 i = 1#1
/-- It holds at the points from point 16 on — decided over the grid. -/
theorem hcond0_1 : ∀ t : Fin cfg0.N, cond0_1 (grid0.coords t) ↔ 16 ≤ t.val :=
  (by decide +kernel : ∀ t : Fin grid0.N, cond0_1 (grid0.coords t) ↔ 16 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Output 8 is stored at the prompt's points. -/
theorem liveAt0_8_A : ∀ t : Fin cfg0.N, cond0_0 (grid0.coords t) → ¬cond0_1 (grid0.coords t) → cfg0.idle 8 (grid0.coords t) = false := by decide +kernel
/-- Output 8 is left alone at the sample's points. -/
theorem idleAt0_8_B : ∀ t : Fin cfg0.N, ¬cond0_0 (grid0.coords t) → cond0_1 (grid0.coords t) → cfg0.idle 8 (grid0.coords t) = true := by decide +kernel
/-- Its buffer holds the last prompt point's block then. -/
theorem fresh0_8_B : ∀ t : Fin cfg0.N, ¬cond0_0 (grid0.coords t) → cond0_1 (grid0.coords t) → cfg0.fresh 8 t.val = false := by decide +kernel
/-- Output 9 is left alone at the prompt's points. -/
theorem idleAt0_9_A : ∀ t : Fin cfg0.N, cond0_0 (grid0.coords t) → ¬cond0_1 (grid0.coords t) → cfg0.idle 9 (grid0.coords t) = true := by decide +kernel
/-- Output 9 is not written back at the prompt's points. -/
theorem noFlush0_9_A : ∀ t : Fin cfg0.N, cond0_0 (grid0.coords t) → ¬cond0_1 (grid0.coords t) → (cfg0.win 9).flush t = false := by decide +kernel
/-- Output 9 is stored at the sample's points. -/
theorem liveAt0_9_B : ∀ t : Fin cfg0.N, ¬cond0_0 (grid0.coords t) → cond0_1 (grid0.coords t) → cfg0.idle 9 (grid0.coords t) = false := by decide +kernel

/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x2048 .f32 := win0_9.stage (cfg0.slots t 9)
abbrev hs0_9 (t : Fin cfg0.N) : (ms0_9 t).IsWhole := hstage0_9 ((cfg0.slots t 9).cast nbuf0_9)
/-- The view through which what the body leaves in output 8 is read. -/
abbrev VO0_8 : View sig .tc .vmem S512x2048 .f32 := (Memref.whole cc0_stg8_0 : Memref sig .tc .vmem S512x2048 .f32).view
/-- The view through which what the body leaves in output 9 is read. -/
abbrev VO0_9 : View sig .tc .vmem S512x2048 .f32 := (Memref.whole cc0_stg9_0 : Memref sig .tc .vmem S512x2048 .f32).view
/-- The scratch, whole. -/
abbrev scM0_0 : Memref sig .tc .vmem S512x2048 .f32 := Memref.whole cc0_scratch0

/-- The invariant of the region, with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel3Ideal.Ple

end
-- ==== Proof.Ple.RunA.lean ====
/- The run of the body at the prompt points. -/
module

public import proofs.«01_k».proof.Proof.Ple.Base

@[expose] public section

set_option maxRecDepth 16384

noncomputable section

namespace Cert.Kernel3Ideal.Ple

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores into output 8, as pieces, in this case: on whole buffers, the inputs' at their contents, it runs
    and leaves the inputs' as they were, output 9's untouched, the pieces in output 8's, the scratch at some contents. -/
noncomputable def runA (c : Dev nD) (i : grid0.Coords) (arg1 : Memref sig .tc .vmem S512x2048 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hc0 : cond0_0 i) (hc1 : ¬cond0_1 i)
    (x0 : Vec F S512x2048 .f32) (x1 : Vec F S512x256 .f32) (x2 : Vec F S512x256 .f32) (x3 : Vec F S256x2048 .bf16) (x4 : Vec F S1x2048 .f32) (x5 : Vec F S1x2048 .f32) (x6 : Vec F S2048x2048 .bf16) (x7 : Vec F S1x2048 .f32) :
    { L : List (View.Piece (Elt F) S512x2048 .f32) //
      ∀ (xi : Vec F S512x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L) ∗ owns (c : Thread nD τ) arg10 fullShare xi ∗ (∃ d, owns (c : Thread nD τ) arg11 fullShare d)) -∗ K ⟨⟩))
          ⊢ wp frame (wpE (defs₀ (F := F)) Variants.none c none) E (cc0_ple i arg1 harg1 arg2 harg2 arg3 harg3 arg4 harg4 arg5 harg5 arg6 harg6 arg7 harg7 arg8 harg8 arg9 harg9 arg10 harg10 arg11 harg11) K } := by
  refine ⟨?_, fun xi E K => ?run⟩
  case run =>
    simp only [cc0_ple_eq_skeleton]; unfold cc0_ple_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    iexists _, _; isplitr; swap; · iexact HS0
    ipureintro; rfl

end Cert.Kernel3Ideal.Ple

end
-- ==== Proof.Ple.RunB.lean ====
/- The run of the body at the sample points. -/
module

public import proofs.«01_k».proof.Proof.Ple.RunA

@[expose] public section

set_option maxRecDepth 16384

noncomputable section

namespace Cert.Kernel3Ideal.Ple

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores into output 9, as pieces, in this case: on whole buffers, the inputs' at their contents, it runs
    and leaves the inputs' as they were, output 8's untouched, the pieces in output 9's, the scratch at some contents. -/
noncomputable def runB (c : Dev nD) (i : grid0.Coords) (arg1 : Memref sig .tc .vmem S512x2048 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : cond0_1 i)
    (x0 : Vec F S512x2048 .f32) (x1 : Vec F S512x256 .f32) (x2 : Vec F S512x256 .f32) (x3 : Vec F S256x2048 .bf16) (x4 : Vec F S1x2048 .f32) (x5 : Vec F S1x2048 .f32) (x6 : Vec F S2048x2048 .bf16) (x7 : Vec F S1x2048 .f32) :
    { L : List (View.Piece (Elt F) S512x2048 .f32) //
      ∀ (xi : Vec F S512x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi ∗ (∃ f, arg10.view.loc (c : Thread nD τ) ↦[arg10.view.set]{fullShare} arg10.view.writes (Elt F) f L) ∗ (∃ d, owns (c : Thread nD τ) arg11 fullShare d)) -∗ K ⟨⟩))
          ⊢ wp frame (wpE (defs₀ (F := F)) Variants.none c none) E (cc0_ple i arg1 harg1 arg2 harg2 arg3 harg3 arg4 harg4 arg5 harg5 arg6 harg6 arg7 harg7 arg8 harg8 arg9 harg9 arg10 harg10 arg11 harg11) K } := by
  refine ⟨?_, fun xi E K => ?run⟩
  case run =>
    simp only [cc0_ple_eq_skeleton]; unfold cc0_ple_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _, _; isplitr; swap; · iexact HS0
    ipureintro; rfl

end Cert.Kernel3Ideal.Ple

end
-- ==== Proof.Ple.Data.lean ====
/- What the points leave, and the proof data of the pipeline. -/
module

public import proofs.«01_k».proof.Proof.Ple.RunB

@[expose] public section

set_option maxRecDepth 16384

noncomputable section

namespace Cert.Kernel3Ideal.Ple

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the run of this case stores at the point `t`. -/
abbrev piecesA (c : Dev nD) (t : Fin cfg0.N) (hA : cond0_0 (grid0.coords t)) (hB : ¬cond0_1 (grid0.coords t)) : List (View.Piece (Elt F) S512x2048 .f32) :=
  (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) hA hB (iblk m c 0 t) (iblk m c 1 t) (iblk m c 2 t) (iblk m c 3 t) (iblk m c 4 t) (iblk m c 5 t) (iblk m c 6 t) (iblk m c 7 t)).1

/-- They cover the block. -/
theorem coverA (c : Dev nD) (t : Fin cfg0.N) (hA : cond0_0 (grid0.coords t)) (hB : ¬cond0_1 (grid0.coords t)) (y : S512x2048.Idx) : ∃ pc ∈ piecesA m c t hA hB, y ∈ pc.1.set :=
  View.cover_of_tiledL (piecesA m c t hA hB) S512x2048.size (by sl_kernel_rfl) y

/-- What this case leaves in output 8 at the point `t`. -/
def outA (c : Dev nD) (t : Fin cfg0.N) (hA : cond0_0 (grid0.coords t)) (hB : ¬cond0_1 (grid0.coords t)) : Vec F S512x2048 .f32 :=
  VO0_8.read (Elt F) (VO0_8.writes (Elt F) VO0_8.junk (piecesA m c t hA hB))

/-- The pieces the run of this case stores at the point `t`. -/
abbrev piecesB (c : Dev nD) (t : Fin cfg0.N) (hA : ¬cond0_0 (grid0.coords t)) (hB : cond0_1 (grid0.coords t)) : List (View.Piece (Elt F) S512x2048 .f32) :=
  (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) hA hB (iblk m c 0 t) (iblk m c 1 t) (iblk m c 2 t) (iblk m c 3 t) (iblk m c 4 t) (iblk m c 5 t) (iblk m c 6 t) (iblk m c 7 t)).1

/-- They cover the block. -/
theorem coverB (c : Dev nD) (t : Fin cfg0.N) (hA : ¬cond0_0 (grid0.coords t)) (hB : cond0_1 (grid0.coords t)) (y : S512x2048.Idx) : ∃ pc ∈ piecesB m c t hA hB, y ∈ pc.1.set :=
  View.cover_of_tiledL (piecesB m c t hA hB) S512x2048.size (by sl_kernel_rfl) y

/-- What this case leaves in output 9 at the point `t`. -/
def outB (c : Dev nD) (t : Fin cfg0.N) (hA : ¬cond0_0 (grid0.coords t)) (hB : cond0_1 (grid0.coords t)) : Vec F S512x2048 .f32 :=
  VO0_9.read (Elt F) (VO0_9.writes (Elt F) VO0_9.junk (piecesB m c t hA hB))

/-- The last prompt point up to `t`. -/
def pt (t : Fin cfg0.N) : Fin cfg0.N := ⟨min t.val 15, lt_of_le_of_lt (min_le_left _ _) t.isLt⟩
/-- It is a prompt point. -/
theorem ptA (t : Fin cfg0.N) : cond0_0 (grid0.coords (pt t)) := (hcond0_0 (pt t)).mpr (lt_of_le_of_lt (min_le_right t.val 15) (by decide))
/-- It is no sample point. -/
theorem ptB (t : Fin cfg0.N) : ¬cond0_1 (grid0.coords (pt t)) := fun h => absurd ((hcond0_1 (pt t)).mp h) (not_le.mpr (lt_of_le_of_lt (min_le_right t.val 15) (by decide)))

/-- What output 8's buffer holds after the point `t`: the block of the last prompt point. -/
def after8 (c : Dev nD) (t : Fin cfg0.N) : Vec F S512x2048 .f32 := outA m c (pt t) (ptA t) (ptB t)

/-- What output 9's buffer holds after the point `t`: the sample point's block. -/
def after9 (c : Dev nD) (t : Fin cfg0.N) : Vec F S512x2048 .f32 :=
  if h : cond0_0 (grid0.coords t) ∨ ¬cond0_1 (grid0.coords t) then VO0_9.read (Elt F) VO0_9.junk
  else outB m c t (fun g => h (Or.inl g)) (not_not.mp fun g => h (Or.inr g))

/-- At a prompt point output 8 holds that point's block. -/
theorem after8_A (c : Dev nD) (t : Fin cfg0.N) (h : t.val < 16) : after8 m c t = outA m c t ((hcond0_0 t).mpr h) (fun g => absurd ((hcond0_1 t).mp g) (not_le.mpr h)) := by
  have e : pt t = t := Fin.ext (by show min t.val 15 = t.val; omega)
  have key : ∀ (u : Fin cfg0.N) (a : cond0_0 (grid0.coords u)) (b : ¬cond0_1 (grid0.coords u)), u = t →
      outA m c u a b = outA m c t ((hcond0_0 t).mpr h) (fun g => absurd ((hcond0_1 t).mp g) (not_le.mpr h)) := by
    intro u a b hu; subst hu; rfl
  exact key _ _ _ e

/-- At a sample point output 8 holds what it held. -/
theorem after8_B (c : Dev nD) (t u : Fin cfg0.N) (h : 16 ≤ t.val) (hu : u.val = t.val - 1) : after8 m c t = after8 m c u := by
  have e : pt t = pt u := Fin.ext (by show min t.val 15 = min u.val 15; omega)
  have key : ∀ (u v : Fin cfg0.N) (a : cond0_0 (grid0.coords u)) (b : ¬cond0_1 (grid0.coords u)) (a' : cond0_0 (grid0.coords v)) (b' : ¬cond0_1 (grid0.coords v)), u = v →
      outA m c u a b = outA m c v a' b' := by
    intro u v a b a' b' hu; subst hu; rfl
  exact key _ _ _ _ _ _ e

/-- At a sample point output 9 holds that point's block. -/
theorem after9_B (c : Dev nD) (t : Fin cfg0.N) (hA : ¬cond0_0 (grid0.coords t)) (hB : cond0_1 (grid0.coords t)) : after9 m c t = outB m c t hA hB :=
  dif_neg (fun h => h.elim hA (fun g => g hB))

/-- The proof data of the pipeline: the arrays as the region finds them; after a point each input's buffer at its block, the outputs' at `after8` and `after9`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => after8 m c t
    | ⟨9, _⟩ => after9 m c t
    | ⟨_ + 10, h⟩ => absurd h (Nat.not_lt.2 (Nat.le_add_left _ _))
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]
/-- What the body leaves in window 8. -/
theorem after0_8 (c : Dev nD) (t : Fin cfg0.N) : (dats m 0 c).after 8 t = after8 m c t := by dsimp only [dats]
/-- What the body leaves in window 9. -/
theorem after0_9 (c : Dev nD) (t : Fin cfg0.N) : (dats m 0 c).after 9 t = after9 m c t := by dsimp only [dats]
/-- What the body finds in window 0. -/
theorem before0_0 (c : Dev nD) (t : Fin cfg0.N) (d) : (dats m 0 c).before 0 t d = iblk m c 0 t := before0_0_of m (dats m 0 c) (A_eq m c 0) (after0_0 m c) t d
/-- What the body finds in window 1. -/
theorem before0_1 (c : Dev nD) (t : Fin cfg0.N) (d) : (dats m 0 c).before 1 t d = iblk m c 1 t := before0_1_of m (dats m 0 c) (A_eq m c 1) (after0_1 m c) t d
/-- What the body finds in window 2. -/
theorem before0_2 (c : Dev nD) (t : Fin cfg0.N) (d) : (dats m 0 c).before 2 t d = iblk m c 2 t := before0_2_of m (dats m 0 c) (A_eq m c 2) (after0_2 m c) t d
/-- What the body finds in window 3. -/
theorem before0_3 (c : Dev nD) (t : Fin cfg0.N) (d) : (dats m 0 c).before 3 t d = iblk m c 3 t := before0_3_of m (dats m 0 c) (A_eq m c 3) (after0_3 m c) t d
/-- What the body finds in window 4. -/
theorem before0_4 (c : Dev nD) (t : Fin cfg0.N) (d) : (dats m 0 c).before 4 t d = iblk m c 4 t := before0_4_of m (dats m 0 c) (A_eq m c 4) (after0_4 m c) t d
/-- What the body finds in window 5. -/
theorem before0_5 (c : Dev nD) (t : Fin cfg0.N) (d) : (dats m 0 c).before 5 t d = iblk m c 5 t := before0_5_of m (dats m 0 c) (A_eq m c 5) (after0_5 m c) t d
/-- What the body finds in window 6. -/
theorem before0_6 (c : Dev nD) (t : Fin cfg0.N) (d) : (dats m 0 c).before 6 t d = iblk m c 6 t := before0_6_of m (dats m 0 c) (A_eq m c 6) (after0_6 m c) t d
/-- What the body finds in window 7. -/
theorem before0_7 (c : Dev nD) (t : Fin cfg0.N) (d) : (dats m 0 c).before 7 t d = iblk m c 7 t := before0_7_of m (dats m 0 c) (A_eq m c 7) (after0_7 m c) t d

/-- At a sample point the body finds the last prompt block in output 8. -/
theorem before0_8 (c : Dev nD) (t : Fin cfg0.N) (hA : ¬cond0_0 (grid0.coords t)) (hB : cond0_1 (grid0.coords t)) (d) : (dats m 0 c).before 8 t d = after8 m c t := by
  have h16 := (hcond0_1 t).mp hB
  rw [Dat.before_out_traj (dats m 0 c) 8 rfl (fun _ _ => rfl) (fun u hu hi _ => by
    rw [after0_8, after0_8]
    by_cases h : u.val < 16
    · rw [liveAt0_8_A u ((hcond0_0 u).mpr h) (fun g => absurd ((hcond0_1 u).mp g) (not_le.mpr h))] at hi
      exact absurd hi Bool.false_ne_true
    · exact after8_B m c u _ (not_lt.mp h) rfl) t.val t rfl d, fresh0_8_B t hA hB, if_neg Bool.false_ne_true, after0_8]
  exact (after8_B m c t _ h16 rfl).symm

/-- So handing output 8's buffer back untouched is all that is asked there. -/
theorem leaves0_8 (c : Dev nD) (t : Fin cfg0.N) (hA : ¬cond0_0 (grid0.coords t)) (hB : cond0_1 (grid0.coords t)) :
    owns (c : Thread nD τ) (ms0_8 t) fullShare (after8 m c t) ⊢ (dats m 0 c).leavesExact 8 t := by
  cases hf : (cfg0.win 8).flush t
  · rw [Dat.leavesExact_idle (dats m 0 c) 8 t (idleAt0_8_B t hA hB) hf]
    iintro H
    iexists (fun _ => Classical.choice inferInstance)
    rw [before0_8 m c t hA hB]
    iexact H
  · rw [show (dats m 0 c).leavesExact 8 t = owns (c : Thread nD τ) (ms0_8 t) fullShare ((dats m 0 c).after 8 t) from by
      unfold Dat.leavesExact; rw [idleAt0_8_B t hA hB, hf], after0_8]

end Cert.Kernel3Ideal.Ple

end
-- ==== Proof.Ple.Frame.lean ====
/- The body obligation at every point, the launch and the frame. -/
module

public import proofs.«01_k».proof.Proof.Ple.Data
public import proofs.«01_k».proof.Proof.Gen.Kernel3Ideal.Launch
public import Idealize.ShloMosaic.Lib.Claim

@[expose] public section

set_option maxRecDepth 16384

noncomputable section

namespace Cert.Kernel3Ideal.Ple

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at the point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at a point of this case. -/
theorem bodyA (c : Dev nD) (t : Fin cfg0.N) (hA : cond0_0 (grid0.coords t)) (hB : ¬cond0_1 (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8_A t hA hB], after0_8]
  rw [Dat.leavesExact_idle (dats m 0 c) 9 t (idleAt0_9_A t hA hB) (noFlush0_9_A t hA hB)]
  rw [after8_A m c t ((hcond0_0 t).mp hA)]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) hA hB (iblk m c 0 t) (iblk m c 1 t) (iblk m c 2 t) (iblk m c 3 t) (iblk m c 4 t) (iblk m c 5 t) (iblk m c 6 t) (iblk m c 7 t)).2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [HS0]; · iexact HS0
  iintro ⟨H0, H1, H2, H3, H4, H5, H6, H7, ⟨%e8, H8⟩, H9, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold outA owns; iexists _; isplitr
    swap; · iexact H8
    ipureintro; exact View.read_writes_of_cover _ _ _ _ _ (coverA m c t hA hB)
  iexists _; iexact H9

set_option maxHeartbeats 4000000 in
/-- The body at a point of this case. -/
theorem bodyB (c : Dev nD) (t : Fin cfg0.N) (hA : ¬cond0_0 (grid0.coords t)) (hB : cond0_1 (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 9 t = owns (c : Thread nD τ) (ms0_9 t) fullShare ((dats m 0 c).after 9 t) from by
    unfold Dat.leavesExact; rw [liveAt0_9_B t hA hB], after0_9]
  simp only [before0_8 m c t hA hB]
  rw [after9_B m c t hA hB]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) hA hB (iblk m c 0 t) (iblk m c 1 t) (iblk m c 2 t) (iblk m c 3 t) (iblk m c 4 t) (iblk m c 5 t) (iblk m c 6 t) (iblk m c 7 t)).2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  iintro ⟨H0, H1, H2, H3, H4, H5, H6, H7, H8, ⟨%e9, H9⟩, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves0_8 m c t hA hB); iexact H8
  · unfold outB owns; iexists _; isplitr
    swap; · iexact H9
    ipureintro; exact View.read_writes_of_cover _ _ _ _ _ (coverB m c t hA hB)

/-- The body at every point. -/
theorem sound_body (c : Dev nD) (t : Fin cfg0.N) :
    bodyPre m c t ⊢ wp frame (wpE (defs₀ (F := F)) Variants.none c none) Set.univ (bodyAt0 t) (fun _ => bodyPost m c t) := by
  by_cases h : t.val < 16
  · exact bodyA m c t ((hcond0_0 t).mpr h) (fun g => absurd ((hcond0_1 t).mp g) (not_le.mpr h))
  · exact bodyB m c t (fun g => h ((hcond0_0 t).mp g)) ((hcond0_1 t).mpr (not_lt.mp h))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame at any values: every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel3Ideal.Ple

end
-- ==== Proof.Row.Row.lean ====
/- What the calls do to one row of 2048 numbers, and the step that moves a row's scale out of a sum. -/
module

public import Idealize.ShloMosaic.Lib.Pointwise

@[expose] public section

set_option maxRecDepth 16384

noncomputable section

namespace Cert.Row

open Idealize.ShloMosaic

/-- `1 / sqrt (mean of the squares of a row + eps)`. -/
def rinv (row : Fin 2048 → EReal) : EReal :=
  Ideal.rsqrt (Ideal.div (∑ k, row k * row k) (Ideal.ofBits .f32 0x45000000#32) + Ideal.ofBits .f32 0x358637BD#32)

/-- A square is not negative. -/
theorem sq_nonneg (x : EReal) : 0 ≤ x * x := by
  induction x with
  | bot => simp
  | top => simp
  | coe x => exact_mod_cast mul_self_nonneg x

/-- A positive number has a reciprocal root that is a nonnegative real. -/
theorem rsqrt_fin (x : EReal) (hx : 0 < x) : 0 ≤ Ideal.rsqrt x ∧ Ideal.rsqrt x ≠ ⊤ := by
  induction x with
  | bot => simp at hx
  | top => simp
  | coe x =>
    have hx : 0 < x := by exact_mod_cast hx
    rw [Ideal.rsqrt_coe, if_neg (not_lt.mpr hx.le), if_neg hx.ne']
    exact ⟨by exact_mod_cast inv_nonneg.mpr (Real.sqrt_nonneg x), EReal.coe_ne_top _⟩

/-- A nonnegative real times a sum is the sum of the products. -/
theorem mul_sum (r : EReal) (h0 : 0 ≤ r) (h1 : r ≠ ⊤) {n : Nat} (f : Fin n → EReal) :
    r * ∑ k, f k = ∑ k, r * f k := by
  induction (Finset.univ : Finset (Fin n)) using Finset.induction_on with
  | empty => simp
  | insert a s ha ih => rw [Finset.sum_insert ha, Finset.sum_insert ha, EReal.left_distrib_of_nonneg_of_ne_top h0 h1, ih]

/-- The eps the mean is shifted by is positive. -/
theorem eps_pos : (0 : EReal) < Ideal.ofBits .f32 0x358637BD#32 := by
  simp [Ideal.ofBits, Ideal.ieee, -EReal.coe_mul]

/-- The number of columns, as the program writes it. -/
theorem n_pos : Ideal.ofBits .f32 0x45000000#32 = ((2048 : ℝ) : EReal) := by
  simp [Ideal.ofBits, Ideal.ieee, -EReal.coe_mul]; norm_num

/-- A nonnegative number divided by the number of columns is nonnegative. -/
theorem div_n_nonneg (s : EReal) (hs : 0 ≤ s) : 0 ≤ Ideal.div s (Ideal.ofBits .f32 0x45000000#32) := by
  have h2 : ((2048 : ℝ) : EReal) ≠ 0 := by norm_cast
  rw [n_pos, Ideal.div, if_neg h2]
  exact mul_nonneg hs (EReal.inv_nonneg_of_nonneg (by norm_cast))

/-- The scale of a row is a nonnegative real, whatever the row holds. -/
theorem rinv_fin (row : Fin 2048 → EReal) : 0 ≤ rinv row ∧ rinv row ≠ ⊤ := by
  refine rsqrt_fin _ ?_
  have hs : 0 ≤ ∑ k, row k * row k := Finset.sum_nonneg fun k _ => sq_nonneg _
  exact lt_of_lt_of_le eps_pos (le_add_of_nonneg_left (div_n_nonneg _ hs))

/-- The row normalised and scaled by `g`. -/
def scaled (x g : Fin 2048 → EReal) (b : Fin 2048) : EReal := x b * rinv x * g b

/-- A column's product with the normalised row: the scale moves out of the sum. -/
theorem dot_scaled (x g w : Fin 2048 → EReal) : rinv x * ∑ k, x k * g k * w k = ∑ k, scaled x g k * w k := by
  obtain ⟨h0, h1⟩ := rinv_fin x
  unfold scaled
  generalize rinv x = r at h0 h1
  rw [mul_sum r h0 h1]
  exact Finset.sum_congr rfl fun k _ => by rw [← mul_assoc, ← mul_assoc, mul_comm r (x k)]

/-- A sum over 2048 columns is the sum over the first 1024 and over the last. -/
theorem sum_halves (f : Fin 2048 → EReal) :
    (∑ k, f k) = (∑ k : Fin 1024, f ⟨k.val, by omega⟩) + ∑ k : Fin 1024, f ⟨1024 + k.val, by omega⟩ :=
  Fin.sum_univ_add (a := 1024) (b := 1024) f

end Cert.Row

end
-- ==== Proof.Ple.Tile.lean ====
/- The per-layer-embedding call: what one grid point computes, read at an index. -/
module

public import proofs.«01_k».proof.Proof.Gen.Kernel3Ideal.Skeleton
public import proofs.«01_k».proof.Proof.Row.Row
public import Idealize.ShloMosaic.Lib.Pointwise

@[expose] public section

set_option maxRecDepth 16384

noncomputable section

namespace Cert.Kernel3Ideal.Ple

open Cert.Kernel3Ideal Cert.Kernel3Ideal.Gen Idealize.ShloMosaic
open Cert.Row (rinv scaled)

/-- One column of the embedding row: the embedding times that column of its weights. -/
def pe (p : Fin 256 → EReal) (we : Fin 256 → Fin 2048 → EReal) (b : Fin 2048) : EReal := ∑ j, p j * we j b

/-- One column of the row before the last normalisation: the input plus the normalised embedding times the gate. -/
def mix (x : Fin 2048 → EReal) (p : Fin 256 → EReal) (we : Fin 256 → Fin 2048 → EReal) (ge gg : Fin 2048 → EReal)
    (wg : Fin 2048 → Fin 2048 → EReal) (b : Fin 2048) : EReal :=
  x b + scaled (pe p we) ge b * Ideal.logistic (rinv x * ∑ k, x k * gg k * wg k b)

theorem pay1_at (h : FVec Ideal S512x2048 .f32) (a : Fin 512) (b : Fin 1) :
    k0_pay1 (F := Ideal) h (ix2 a b) = rinv fun k => h (ix2 a k) := by
  pointwise [k0_pay1, rinv]

theorem pay2_at (h : FVec Ideal S512x2048 .f32) (g : FVec Ideal S1x2048 .f32) (a : Fin 512) (b : Fin 2048) :
    k0_pay2 (F := Ideal) h g (ix2 a b) = h (ix2 a b) * g (ix2 0 b) := by
  pointwise [k0_pay2]

theorem pay3_at (p : FVec Ideal S512x256 .f32) (we : FVec Ideal S256x2048 .bf16) (g : FVec Ideal S1x2048 .f32)
    (a : Fin 512) (b : Fin 2048) :
    k0_pay3 (F := Ideal) p we g (ix2 a b) = scaled (pe (fun j => p (ix2 a j)) fun j k => we (ix2 j k)) (fun k => g (ix2 0 k)) b := by
  pointwise [k0_pay3, scaled, rinv, pe]

/-- The first 1024 columns of the mixed rows. -/
theorem pay8_at (r : FVec Ideal S512x1 .f32) (hg : FVec Ideal S512x2048 .bf16) (x e : FVec Ideal S512x1024 .f32)
    (w : FVec Ideal S2048x1024 .bf16) (a : Fin 512) (b : Fin 1024) :
    k0_pay8 (F := Ideal) r hg x e w (constant S512x1024 .f32 0x00000000#32) (ix2 a b)
      = x (ix2 a b) + e (ix2 a b) * Ideal.logistic (r (ix2 a 0) * ∑ k, hg (ix2 a k) * w (ix2 k b)) := by
  pointwise [k0_pay8]

/-- The last 1024 columns of the mixed rows. -/
theorem pay10_at (h : FVec Ideal S512x2048 .f32) (r : FVec Ideal S512x1 .f32) (hg : FVec Ideal S512x2048 .bf16)
    (e : FVec Ideal S512x2048 .f32) (w : FVec Ideal S2048x1024 .bf16) (a : Fin 512) (b : Fin 1024) :
    k0_pay10 (F := Ideal) h r hg e w (ix2 a b)
      = h (ix2 a ⟨1024 + b.val, by omega⟩) + e (ix2 a ⟨1024 + b.val, by omega⟩) * Ideal.logistic (r (ix2 a 0) * ∑ k, hg (ix2 a k) * w (ix2 k b)) := by
  pointwise [k0_pay10]

/-- The last normalisation, whose sum of squares is taken half by half. -/
theorem pay12_at (h : FVec Ideal S512x2048 .f32) (r : FVec Ideal S512x1 .f32) (hg : FVec Ideal S512x2048 .bf16)
    (e : FVec Ideal S512x2048 .f32) (x0 e0 : FVec Ideal S512x1024 .f32) (w0 w1 : FVec Ideal S2048x1024 .bf16)
    (t : FVec Ideal S512x2048 .f32) (g : FVec Ideal S1x2048 .f32) (a : Fin 512) (b : Fin 2048) :
    k0_pay12 (F := Ideal) h r hg e k0_pay4 x0 e0 w0 (constant S512x1024 .f32 0x00000000#32) w1 t g (ix2 a b)
      = t (ix2 a b) * Ideal.rsqrt (Ideal.div
          ((∑ k : Fin 1024, k0_pay8 (F := Ideal) r hg x0 e0 w0 (constant S512x1024 .f32 0x00000000#32) (ix2 a k)
              * k0_pay8 (F := Ideal) r hg x0 e0 w0 (constant S512x1024 .f32 0x00000000#32) (ix2 a k))
            + ∑ k : Fin 1024, k0_pay10 (F := Ideal) h r hg e w1 (ix2 a k) * k0_pay10 (F := Ideal) h r hg e w1 (ix2 a k))
          (Ideal.ofBits .f32 0x45000000#32) + Ideal.ofBits .f32 0x358637BD#32) * g (ix2 0 b) := by
  pointwise [k0_pay12, k0_pay4]

end Cert.Kernel3Ideal.Ple

end
-- ==== Proof.Ple.Ref.lean ====
/- The per-layer-embedding reference, in stages, read at an index. -/
module

public import proofs.«01_k».proof.Proof.Gen.Reference3Ideal.Run
public import proofs.«01_k».proof.Proof.Row.Row
public import proofs.«01_k».proof.Proof.Ple.Tile
public import Idealize.ShloMosaic.Lib.Pointwise

@[expose] public section

set_option maxRecDepth 16384

noncomputable section

namespace Cert.Reference3Ideal.Ple

open Cert.Reference3Ideal Cert.Reference3Ideal.Gen Idealize.ShloMosaic Idealize.ShloMosaic.TcCoe Idealize.SL.Sem
open Cert.Reference3Ideal.Value
open Cert.Row (rinv scaled dot_scaled)
open Cert.Kernel3Ideal.Ple (pe mix)

/-! The prompt's rows. -/

/-- Every row normalised and scaled by `G`. -/
def normP (X : FVec Ideal S8192x2048 .f32) (G : FVec Ideal S2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))

/-- The embedding times its weights. -/
def peP (P : FVec Ideal S1x4x2048x256 .f32) (W : FVec Ideal S1x256x2048 .f32) : FVec Ideal S8192x2048 .f32 :=
  Host.dotGeneral dot_S8192x256_S256x2048_S8192x2048_1_0_0_1_n_n none (shapeCast S8192x256 (shapeCast S4x2048x256 P shapeCasts_S1x4x2048x256_S4x2048x256) shapeCasts_S4x2048x256_S8192x256) (shapeCast S256x2048 W shapeCasts_S1x256x2048_S256x2048)

/-- The gate: one over one plus the exponential of minus the product. -/
def gateP (X : FVec Ideal S8192x2048 .f32) (W : FVec Ideal S1x2048x2048 .f32) : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none X (shapeCast S2048x2048 W shapeCasts_S1x2048x2048_S2048x2048)))))

/-- The rows before the last normalisation. -/
def mixP (H : FVec Ideal S9216x2048 .f32) (P : FVec Ideal S1x4x2048x256 .f32) (We : FVec Ideal S1x256x2048 .f32)
    (Ge Gg : FVec Ideal S1x2048 .f32) (Wg : FVec Ideal S1x2048x2048 .f32) : FVec Ideal S8192x2048 .f32 :=
  addf (extractStridedSlice S8192x2048 ![0, 0] H slices_S9216x2048_S8192x2048_0_0) (mulf (normP (peP P We) (shapeCast S2048 Ge shapeCasts_S1x2048_S2048))
    (gateP (normP (extractStridedSlice S8192x2048 ![0, 0] H slices_S9216x2048_S8192x2048_0_0) (shapeCast S2048 Gg shapeCasts_S1x2048_S2048)) Wg))

theorem normP_at (X : FVec Ideal S8192x2048 .f32) (G : FVec Ideal S2048 .f32) (a : Fin 8192) (b : Fin 2048) :
    normP X G (ix2 a b) = scaled (fun k => X (ix2 a k)) (fun k => G (ix1 k)) b := by
  pointwise [normP, scaled, rinv]

theorem peP_at (P : FVec Ideal S1x4x2048x256 .f32) (W : FVec Ideal S1x256x2048 .f32) (a : Fin 8192) (b : Fin 2048) :
    peP P W (ix2 a b) = pe (fun j => P (ix4 0 ⟨a.val / 2048, by omega⟩ ⟨a.val % 2048, by omega⟩ j)) (fun j k => W (ix3 0 j k)) b := by
  pointwise [peP, pe]

theorem gateP_at (X : FVec Ideal S8192x2048 .f32) (W : FVec Ideal S1x2048x2048 .f32) (a : Fin 8192) (b : Fin 2048) :
    gateP X W (ix2 a b) = Ideal.logistic (∑ k, X (ix2 a k) * W (ix3 0 k b)) := by
  pointwise [gateP, Ideal.logistic]

theorem sliceP_at (H : FVec Ideal S9216x2048 .f32) (a : Fin 8192) (b : Fin 2048) :
    extractStridedSlice S8192x2048 ![0, 0] H slices_S9216x2048_S8192x2048_0_0 (ix2 a b) = H (ix2 ⟨0 + a.val, by omega⟩ b) := by
  pointwise

theorem cast_atP (G : FVec Ideal S1x2048 .f32) (b : Fin 2048) : shapeCast S2048 G shapeCasts_S1x2048_S2048 (ix1 b) = G (ix2 0 b) := by
  pointwise

theorem mixP_at (H : FVec Ideal S9216x2048 .f32) (P : FVec Ideal S1x4x2048x256 .f32) (We : FVec Ideal S1x256x2048 .f32)
    (Ge Gg : FVec Ideal S1x2048 .f32) (Wg : FVec Ideal S1x2048x2048 .f32) (a : Fin 8192) (b : Fin 2048) :
    mixP H P We Ge Gg Wg (ix2 a b) = mix (fun k => H (ix2 ⟨0 + a.val, by omega⟩ k)) (fun j => P (ix4 0 ⟨a.val / 2048, by omega⟩ ⟨a.val % 2048, by omega⟩ j))
      (fun j k => We (ix3 0 j k)) (fun k => Ge (ix2 0 k)) (fun k => Gg (ix2 0 k)) (fun k l => Wg (ix3 0 k l)) b := by
  rw [mix, dot_scaled]
  unfold mixP
  pointwise [normP_at, peP_at, gateP_at]

/-! The sample's rows. -/

/-- Every row normalised and scaled by `G`. -/
def normS (X : FVec Ideal S1024x2048 .f32) (G : FVec Ideal S2048 .f32) : FVec Ideal S1024x2048 .f32 :=
  mulf (mulf X (broadcastInDim S1024x2048 ![0, 1] bcast_S1024x1_S1024x2048_0_1 (Host.rsqrt (addf (Host.divf (broadcastInDim S1024x1 ![0] bcast_S1024_S1024x1_0 (Host.reduceAdd (mulf X X) (constant S_ .f32 0x00000000#32) reducesTo_S1024x2048_S1024_d1 h_S_)) (broadcastInDim S1024x1 ![] bcast_S_S1024x1 (constant S_ .f32 0x45000000#32))) (broadcastInDim S1024x1 ![] bcast_S_S1024x1 (constant S_ .f32 0x358637BD#32)))))) (broadcastInDim S1024x2048 ![0, 1] bcast_S1x2048_S1024x2048_0_1 (broadcastInDim S1x2048 ![1] bcast_S2048_S1x2048_1 G))

/-- The embedding times its weights. -/
def peS (P : FVec Ideal S1x128x8x256 .f32) (W : FVec Ideal S1x256x2048 .f32) : FVec Ideal S1024x2048 .f32 :=
  Host.dotGeneral dot_S1024x256_S256x2048_S1024x2048_1_0_0_1_n_n none (shapeCast S1024x256 (shapeCast S128x8x256 P shapeCasts_S1x128x8x256_S128x8x256) shapeCasts_S128x8x256_S1024x256) (shapeCast S256x2048 W shapeCasts_S1x256x2048_S256x2048)

/-- The gate: one over one plus the exponential of minus the product. -/
def gateS (X : FVec Ideal S1024x2048 .f32) (W : FVec Ideal S1x2048x2048 .f32) : FVec Ideal S1024x2048 .f32 :=
  Host.divf (broadcastInDim S1024x2048 ![] bcast_S_S1024x2048 (constant S_ .f32 0x3F800000#32)) (addf (broadcastInDim S1024x2048 ![] bcast_S_S1024x2048 (constant S_ .f32 0x3F800000#32)) (Host.exp (Host.negf (Host.dotGeneral dot_S1024x2048_S2048x2048_S1024x2048_1_0_0_1_n_n none X (shapeCast S2048x2048 W shapeCasts_S1x2048x2048_S2048x2048)))))

/-- The rows before the last normalisation. -/
def mixS (H : FVec Ideal S9216x2048 .f32) (P : FVec Ideal S1x128x8x256 .f32) (We : FVec Ideal S1x256x2048 .f32)
    (Ge Gg : FVec Ideal S1x2048 .f32) (Wg : FVec Ideal S1x2048x2048 .f32) : FVec Ideal S1024x2048 .f32 :=
  addf (extractStridedSlice S1024x2048 ![8192, 0] H slices_S9216x2048_S1024x2048_8192_0) (mulf (normS (peS P We) (shapeCast S2048 Ge shapeCasts_S1x2048_S2048))
    (gateS (normS (extractStridedSlice S1024x2048 ![8192, 0] H slices_S9216x2048_S1024x2048_8192_0) (shapeCast S2048 Gg shapeCasts_S1x2048_S2048)) Wg))

theorem normS_at (X : FVec Ideal S1024x2048 .f32) (G : FVec Ideal S2048 .f32) (a : Fin 1024) (b : Fin 2048) :
    normS X G (ix2 a b) = scaled (fun k => X (ix2 a k)) (fun k => G (ix1 k)) b := by
  pointwise [normS, scaled, rinv]

theorem peS_at (P : FVec Ideal S1x128x8x256 .f32) (W : FVec Ideal S1x256x2048 .f32) (a : Fin 1024) (b : Fin 2048) :
    peS P W (ix2 a b) = pe (fun j => P (ix4 0 ⟨a.val / 8, by omega⟩ ⟨a.val % 8, by omega⟩ j)) (fun j k => W (ix3 0 j k)) b := by
  pointwise [peS, pe]

theorem gateS_at (X : FVec Ideal S1024x2048 .f32) (W : FVec Ideal S1x2048x2048 .f32) (a : Fin 1024) (b : Fin 2048) :
    gateS X W (ix2 a b) = Ideal.logistic (∑ k, X (ix2 a k) * W (ix3 0 k b)) := by
  pointwise [gateS, Ideal.logistic]

theorem sliceS_at (H : FVec Ideal S9216x2048 .f32) (a : Fin 1024) (b : Fin 2048) :
    extractStridedSlice S1024x2048 ![8192, 0] H slices_S9216x2048_S1024x2048_8192_0 (ix2 a b) = H (ix2 ⟨8192 + a.val, by omega⟩ b) := by
  pointwise

theorem cast_atS (G : FVec Ideal S1x2048 .f32) (b : Fin 2048) : shapeCast S2048 G shapeCasts_S1x2048_S2048 (ix1 b) = G (ix2 0 b) := by
  pointwise

theorem mixS_at (H : FVec Ideal S9216x2048 .f32) (P : FVec Ideal S1x128x8x256 .f32) (We : FVec Ideal S1x256x2048 .f32)
    (Ge Gg : FVec Ideal S1x2048 .f32) (Wg : FVec Ideal S1x2048x2048 .f32) (a : Fin 1024) (b : Fin 2048) :
    mixS H P We Ge Gg Wg (ix2 a b) = mix (fun k => H (ix2 ⟨8192 + a.val, by omega⟩ k)) (fun j => P (ix4 0 ⟨a.val / 8, by omega⟩ ⟨a.val % 8, by omega⟩ j))
      (fun j k => We (ix3 0 j k)) (fun k => Ge (ix2 0 k)) (fun k => Gg (ix2 0 k)) (fun k l => Wg (ix3 0 k l)) b := by
  rw [mix, dot_scaled]
  unfold mixS
  pointwise [normS_at, peS_at, gateS_at]

/-- The reference's result for the prompt is its mixed rows normalised. -/
theorem resP_eq (m : (ℓ : Loc nD τ sig) → Buf (Elt Ideal) ℓ) (c : Dev nD) : res_out0 m c =
    normP (mixP (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6)))
      (m ((c : Thread nD τ).loc main_arg7)) := rfl

/-- The reference's result for the sample is its mixed rows normalised. -/
theorem resS_eq (m : (ℓ : Loc nD τ sig) → Buf (Elt Ideal) ℓ) (c : Dev nD) : res_out1 m c =
    normS (mixS (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6)))
      (m ((c : Thread nD τ).loc main_arg7)) := rfl

end Cert.Reference3Ideal.Ple

end
-- ==== Proof.Ple.Block.lean ====
/- The per-layer-embedding call: the block one grid point stores, from its input blocks. -/
module

public import proofs.«01_k».proof.Proof.Ple.Tile
public import Idealize.ShloMosaic.Lib.Pipeline.ValueKit
public import Idealize.ShloMosaic.Lib.Claim

@[expose] public section

set_option maxRecDepth 16384

noncomputable section

namespace Cert.Kernel3Ideal.Ple

open Cert.Kernel3Ideal Cert.Kernel3Ideal.Gen Idealize.ShloMosaic Idealize.ShloMosaic.TcCoe Idealize.SL.Sem
open Cert.Row (rinv scaled sum_halves)

/-! ## What a point computes, from its eight blocks -/

section Block
variable (h : FVec Ideal S512x2048 .f32) (p : FVec Ideal S512x256 .f32) (we : FVec Ideal S256x2048 .bf16)
  (ge gg : FVec Ideal S1x2048 .f32) (wg : FVec Ideal S2048x2048 .bf16) (gf : FVec Ideal S1x2048 .f32)

/-- The left and the right half of the gate's weights. -/
def wgL (wg : FVec Ideal S2048x2048 .bf16) : FVec Ideal S2048x1024 .bf16 :=
  View.ld (Val := Elt Ideal) (S := S2048x2048) (e' := .bf16) wg (Rect.unit ![0, 0] ![2048, 1024] inb_S2048x2048_S2048x1024_0_0)
def wgR (wg : FVec Ideal S2048x2048 .bf16) : FVec Ideal S2048x1024 .bf16 :=
  View.ld (Val := Elt Ideal) (S := S2048x2048) (e' := .bf16) wg (Rect.unit ![0, 1024] ![2048, 1024] inb_S2048x2048_S2048x1024_0_1024)

/-- The left half of the mixed rows. -/
def left : FVec Ideal S512x1024 .f32 :=
  k0_pay8 (k0_pay1 h) (k0_pay2 h gg) (k0_pay5 h) (k0_pay6 p we ge) (k0_pay7 (wgL wg)) (constant S512x1024 FTy.f32 0#32)

/-- The right half of the mixed rows. -/
def right : FVec Ideal S512x1024 .f32 :=
  k0_pay10 h (k0_pay1 h) (k0_pay2 h gg) (k0_pay3 p we ge) (wgR wg)

/-- The whole of a block. -/
abbrev wholeRect : Rect S512x2048 := Rect.unit ![0, 0] ![512, 2048] inb_S512x2048_S512x2048_0_0

/-- Two halves, as the scratch buffer holds them side by side. -/
def halves (L R : FVec Ideal S512x1024 .f32) : FVec Ideal S512x2048 .f32 :=
  View.readCov (Val := Elt Ideal) (s := S512x2048) (e := .f32) (View.whole cc0_scratch0)
    [(⟨Rect.unit ![0, 1024] ![512, 1024] inb_S512x2048_S512x1024_0_1024, R⟩ : View.Piece (Elt Ideal) S512x2048 .f32),
      (⟨Rect.unit ![0, 0] ![512, 1024] inb_S512x2048_S512x1024_0_0, L⟩ : View.Piece (Elt Ideal) S512x2048 .f32)]
    wholeRect.toLoadRect

/-- The block a point stores. -/
def blockOut : FVec Ideal S512x2048 .f32 :=
  k0_pay12 h (k0_pay1 h) (k0_pay2 h gg) (k0_pay3 p we ge) k0_pay4 (k0_pay5 h) (k0_pay6 p we ge) (k0_pay7 (wgL wg))
    (constant S512x1024 FTy.f32 0#32) (wgR wg) (halves
      (k0_pay9 (k0_pay1 h) (k0_pay2 h gg) (k0_pay5 h) (k0_pay6 p we ge) (k0_pay7 (wgL wg)) (constant S512x1024 FTy.f32 0#32))
      (k0_pay11 h (k0_pay1 h) (k0_pay2 h gg) (k0_pay3 p we ge) (wgR wg))) gf

/-- A row of the mixed rows. -/
def row (a : Fin 512) : Fin 2048 → EReal :=
  mix (fun k => h (ix2 a k)) (fun j => p (ix2 a j)) (fun j k => we (ix2 j k)) (fun k => ge (ix2 0 k)) (fun k => gg (ix2 0 k))
    fun k l => wg (ix2 k l)

/-- The left half, read at an index. -/
theorem left_at (a : Fin 512) (b : Fin 1024) : left h p we ge gg wg (ix2 a b) = row h p we ge gg wg a ⟨b.val, by omega⟩ := by
  unfold left row mix
  rw [pay8_at, pay1_at]
  have e5 : k0_pay5 (F := Ideal) h (ix2 a b) = h (ix2 a ⟨b.val, by omega⟩) := by pointwise [k0_pay5]
  have e6 : k0_pay6 (F := Ideal) p we ge (ix2 a b) = k0_pay3 (F := Ideal) p we ge (ix2 a ⟨b.val, by omega⟩) := by
    unfold k0_pay6; pointwise
  have e7 : ∀ k, k0_pay7 (F := Ideal) (wgL wg) (ix2 k b) = wg (ix2 k ⟨b.val, by omega⟩) := fun k => by
    pointwise [k0_pay7, wgL]
  rw [e5, e6, pay3_at]
  simp only [pay2_at, e7]

/-- The right half, read at an index. -/
theorem right_at (a : Fin 512) (b : Fin 1024) : right h p we ge gg wg (ix2 a b) = row h p we ge gg wg a ⟨1024 + b.val, by omega⟩ := by
  unfold right row mix
  rw [pay10_at, pay1_at, pay3_at]
  have e7 : ∀ k, wgR wg (ix2 k b) = wg (ix2 k ⟨1024 + b.val, by omega⟩) := fun k => by
    pointwise [wgR]
  simp only [pay2_at, e7]

theorem pay9_eq : k0_pay9 (k0_pay1 h) (k0_pay2 h gg) (k0_pay5 h) (k0_pay6 p we ge) (k0_pay7 (wgL wg)) (constant S512x1024 FTy.f32 0#32)
    = left h p we ge gg wg := by
  funext y; idx_vars y; unfold k0_pay9 left; pointwise

theorem pay11_eq : k0_pay11 h (k0_pay1 h) (k0_pay2 h gg) (k0_pay3 p we ge) (wgR wg) = right h p we ge gg wg := by
  funext y; idx_vars y; unfold k0_pay11 right; pointwise

theorem halves_at (L R : FVec Ideal S512x1024 .f32) (G : FVec Ideal S512x2048 .f32)
    (hL : ∀ (a : Fin 512) (b : Fin 1024), L (ix2 a b) = G (ix2 a ⟨b.val, by omega⟩))
    (hR : ∀ (a : Fin 512) (b : Fin 1024), R (ix2 a b) = G (ix2 a ⟨1024 + b.val, by omega⟩)) (a : Fin 512) (b : Fin 2048) :
    halves L R (ix2 a b) = G (ix2 a b) := by
  unfold halves
  rw [View.readCov_eq_canon']
  have e : wholeRect.toLoadRect.idx (ix2 a b) = (ix2 a b : S512x2048.Idx) := by
    funext i; fin_cases i <;> exact Fin.ext (by simp [LoadRect.idx, Rect.toLoadRect, Rect.unit, wholeRect])
  show View.canon _ (wholeRect.toLoadRect.idx (ix2 a b)) = _
  rw [e]
  canon_tiles x hx
  · obtain ⟨x0, x1, rfl⟩ : ∃ (x0 : Fin 512) (x1 : Fin 1024), x = ix2 x0 x1 := ⟨x 0, x 1, by
      funext i; fin_cases i <;> rfl⟩
    rw [hR]
    exact congrArg G (congrArg₂ ix2 (Fin.ext hx0.symm) (Fin.ext hx1.symm))
  · obtain ⟨x0, x1, rfl⟩ : ∃ (x0 : Fin 512) (x1 : Fin 1024), x = ix2 x0 x1 := ⟨x 0, x 1, by
      funext i; fin_cases i <;> rfl⟩
    rw [hL]
    exact congrArg G (congrArg₂ ix2 (Fin.ext hx0.symm) (Fin.ext hx1.symm))

theorem blockOut_at (a : Fin 512) (b : Fin 2048) : blockOut h p we ge gg wg gf (ix2 a b)
    = scaled (row h p we ge gg wg a) (fun k => gf (ix2 0 k)) b := by
  unfold blockOut
  rw [pay12_at, pay9_eq, pay11_eq, halves_at _ _ (fun y => row h p we ge gg wg (y 0) (y 1)) (left_at h p we ge gg wg) (right_at h p we ge gg wg)]
  have eL : ∀ k : Fin 1024, k0_pay8 (F := Ideal) (k0_pay1 h) (k0_pay2 h gg) (k0_pay5 h) (k0_pay6 p we ge) (k0_pay7 (wgL wg))
      (constant S512x1024 .f32 0x00000000#32) (ix2 a k) = row h p we ge gg wg a ⟨k.val, by omega⟩ := fun k => left_at h p we ge gg wg a k
  have eR : ∀ k : Fin 1024, k0_pay10 (F := Ideal) h (k0_pay1 h) (k0_pay2 h gg) (k0_pay3 p we ge) (wgR wg) (ix2 a k)
      = row h p we ge gg wg a ⟨1024 + k.val, by omega⟩ := fun k => right_at h p we ge gg wg a k
  simp only [eL, eR]
  unfold scaled rinv
  rw [sum_halves]
  rfl

end Block

end Cert.Kernel3Ideal.Ple

end
-- ==== Proof.Ple.Value.lean ====
/- The per-layer-embedding call: its two result arrays are the reference's. -/
module

public import proofs.«01_k».proof.Proof.Ple.Frame
public import proofs.«01_k».proof.Proof.Ple.Ref
public import proofs.«01_k».proof.Proof.Ple.Block
public import Idealize.ShloMosaic.Lib.Pipeline.ValueKit
public import Idealize.ShloMosaic.Lib.Claim

@[expose] public section

set_option maxRecDepth 16384

noncomputable section

namespace Cert.Kernel3Ideal.Ple

open Cert.Kernel3Ideal Cert.Kernel3Ideal.Gen Idealize.ShloMosaic Idealize.ShloMosaic.TcCoe Idealize.SL.Sem
open Idealize.ShloMosaic.Pipeline (Dat)
open Cert.Row (rinv scaled sum_halves)

variable (m : (ℓ : Loc nD τ sig) → Buf (Elt Ideal) ℓ)

theorem idx : ∀ t : Fin cfg0.N, win0_0.index t = ![t.val, 0] ∧ win0_1.index t = ![min t.val 15, 0]
    ∧ win0_2.index t = ![t.val - 16, 0] ∧ win0_3.index t = ![0, 0] ∧ win0_4.index t = ![0, 0] ∧ win0_5.index t = ![0, 0]
    ∧ win0_6.index t = ![0, 0] ∧ win0_7.index t = ![0, 0] ∧ win0_8.index t = ![min t.val 15, 0]
    ∧ win0_9.index t = ![t.val - 16, 0] :=
  (by decide +kernel : ∀ t : Fin grid0.N, _)

theorem lt18 (t : Fin cfg0.N) : t.val < 18 := t.isLt

/-- The eight arguments. -/
abbrev aH (c : Dev nD) : FVec Ideal S9216x2048 .f32 := m ((c : Thread nD τ).loc main_arg0)
abbrev aP (c : Dev nD) : FVec Ideal S1x4x2048x256 .f32 := m ((c : Thread nD τ).loc main_arg1)
abbrev aS (c : Dev nD) : FVec Ideal S1x128x8x256 .f32 := m ((c : Thread nD τ).loc main_arg2)
abbrev aWe (c : Dev nD) : FVec Ideal S1x256x2048 .f32 := m ((c : Thread nD τ).loc main_arg3)
abbrev aGe (c : Dev nD) : FVec Ideal S1x2048 .f32 := m ((c : Thread nD τ).loc main_arg4)
abbrev aGg (c : Dev nD) : FVec Ideal S1x2048 .f32 := m ((c : Thread nD τ).loc main_arg5)
abbrev aWg (c : Dev nD) : FVec Ideal S1x2048x2048 .f32 := m ((c : Thread nD τ).loc main_arg6)
abbrev aGf (c : Dev nD) : FVec Ideal S2048 .f32 := m ((c : Thread nD τ).loc main_arg7)

/-- The eight input blocks of point `t`. -/
abbrev b0 (c : Dev nD) (t : Fin cfg0.N) : FVec Ideal S512x2048 .f32 := iblk m c 0 t
abbrev b1 (c : Dev nD) (t : Fin cfg0.N) : FVec Ideal S512x256 .f32 := iblk m c 1 t
abbrev b2 (c : Dev nD) (t : Fin cfg0.N) : FVec Ideal S512x256 .f32 := iblk m c 2 t
abbrev b3 (c : Dev nD) (t : Fin cfg0.N) : FVec Ideal S256x2048 .bf16 := iblk m c 3 t
abbrev b4 (c : Dev nD) (t : Fin cfg0.N) : FVec Ideal S1x2048 .f32 := iblk m c 4 t
abbrev b5 (c : Dev nD) (t : Fin cfg0.N) : FVec Ideal S1x2048 .f32 := iblk m c 5 t
abbrev b6 (c : Dev nD) (t : Fin cfg0.N) : FVec Ideal S2048x2048 .bf16 := iblk m c 6 t
abbrev b7 (c : Dev nD) (t : Fin cfg0.N) : FVec Ideal S1x2048 .f32 := iblk m c 7 t

/-! The blocks of a point, as parts of the arguments. -/

theorem read0 (c : Dev nD) (t : Fin cfg0.N) (a : Fin 512) (k : Fin 2048) :
    b0 m c t (ix2 a k) = aH m c (ix2 ⟨512 * t.val + a.val, by have := lt18 t; omega⟩ k) := by
  blk_ext [b0, iblk, V, idx t]

theorem read1 (c : Dev nD) (t : Fin cfg0.N) (a : Fin 512) (j : Fin 256) : b1 m c t (ix2 a j)
    = aP m c (ix4 0 ⟨(512 * min t.val 15 + a.val) / 2048, by omega⟩ ⟨(512 * min t.val 15 + a.val) % 2048, by omega⟩ j) := by
  blk_simp [b1, iblk, idx t]
  entry_read
  pointwise
  blk_ext [idx t]

theorem read2 (c : Dev nD) (t : Fin cfg0.N) (a : Fin 512) (j : Fin 256) : b2 m c t (ix2 a j)
    = aS m c (ix4 0 ⟨(512 * (t.val - 16) + a.val) / 8, by have := lt18 t; omega⟩ ⟨(512 * (t.val - 16) + a.val) % 8, by omega⟩ j) := by
  blk_simp [b2, iblk, idx t]
  entry_read
  pointwise
  blk_ext [idx t]

theorem read3 (c : Dev nD) (t : Fin cfg0.N) (j : Fin 256) (k : Fin 2048) : b3 m c t (ix2 j k) = aWe m c (ix3 0 j k) := by
  blk_simp [b3, iblk, idx t]
  entry_read
  pointwise
  blk_ext [idx t]

theorem read4 (c : Dev nD) (t : Fin cfg0.N) (k : Fin 2048) : b4 m c t (ix2 0 k) = aGe m c (ix2 0 k) := by
  blk_simp [b4, iblk, idx t]
  entry_read
  pointwise
  blk_ext [idx t]

theorem read5 (c : Dev nD) (t : Fin cfg0.N) (k : Fin 2048) : b5 m c t (ix2 0 k) = aGg m c (ix2 0 k) := by
  blk_simp [b5, iblk, idx t]
  entry_read
  pointwise
  blk_ext [idx t]

theorem read6 (c : Dev nD) (t : Fin cfg0.N) (k l : Fin 2048) : b6 m c t (ix2 k l) = aWg m c (ix3 0 k l) := by
  blk_simp [b6, iblk, idx t]
  entry_read
  pointwise
  blk_ext [idx t]

theorem read7 (c : Dev nD) (t : Fin cfg0.N) (k : Fin 2048) : b7 m c t (ix2 0 k) = aGf m c (ix1 k) := by
  blk_simp [b7, iblk, idx t]
  entry_read
  pointwise
  blk_ext [idx t]

/-- What a prompt point leaves. -/
theorem outA_eq (c : Dev nD) (t : Fin cfg0.N) (hA : cond0_0 (grid0.coords t)) (hB : ¬cond0_1 (grid0.coords t)) :
    outA m c t hA hB = blockOut (b0 m c t) (b1 m c t) (b3 m c t) (b4 m c t) (b5 m c t) (b6 m c t) (b7 m c t) := by
  unfold outA piecesA
  frame_out
  rfl

/-- What a sample point leaves. -/
theorem outB_eq (c : Dev nD) (t : Fin cfg0.N) (hA : ¬cond0_0 (grid0.coords t)) (hB : cond0_1 (grid0.coords t)) :
    outB m c t hA hB = blockOut (b0 m c t) (b2 m c t) (b3 m c t) (b4 m c t) (b5 m c t) (b6 m c t) (b7 m c t) := by
  unfold outB piecesB
  frame_out
  rfl

/-! ## The two result arrays -/

open Cert.Reference3Ideal.Ple (normP mixP normS mixS normP_at mixP_at normS_at mixS_at cast_atP)

/-- The reference's prompt rows over the kernel's arguments. -/
abbrev REFP (c : Dev nD) : FVec Ideal S8192x2048 .f32 :=
  normP (mixP (aH m c) (aP m c) (aWe m c) (aGe m c) (aGg m c) (aWg m c)) (aGf m c)

/-- The reference's sample rows over the kernel's arguments. -/
abbrev REFS (c : Dev nD) : FVec Ideal S1024x2048 .f32 :=
  normS (mixS (aH m c) (aS m c) (aWe m c) (aGe m c) (aGg m c) (aWg m c)) (aGf m c)

/-- The prompt's result array after the run is the reference's. -/
theorem final8 (c : Dev nD) : (dats m 0 c).arrAt 8 (cfgs 0).N = REFP m c := by
  refine (dats m 0 c).arrAt_eq_of_covers 8 _ (by decide +kernel) fun t hf y => ?_
  blk_simp
  rw [after0_8]
  obtain ⟨y0, y1, rfl⟩ : ∃ (y0 : Fin 512) (y1 : Fin 2048), y = ix2 y0 y1 := ⟨y 0, y 1, by
    funext i; fin_cases i <;> rfl⟩
  have hemb : (win0_8.blk t).view.emb (ix2 y0 y1)
      = (ix2 ⟨512 * min t.val 15 + y0.val, by omega⟩ y1 : S8192x2048.Idx) := by
    blk_ext [idx t]
  refine (congrFun (outA_eq m c (pt t) (ptA t) (ptB t)) (ix2 y0 y1)).trans ?_
  rw [hemb, blockOut_at, REFP, normP_at]
  have hp : (pt t).val = min t.val 15 := rfl
  have e : ∀ k, row (b0 m c (pt t)) (b1 m c (pt t)) (b3 m c (pt t)) (b4 m c (pt t)) (b5 m c (pt t)) (b6 m c (pt t)) y0 k
      = mixP (aH m c) (aP m c) (aWe m c) (aGe m c) (aGg m c) (aWg m c) (ix2 ⟨512 * min t.val 15 + y0.val, by omega⟩ k) := fun k => by
    rw [mixP_at, row]
    simp only [read0, read1, read3, read4, read5, read6]
    simp only [hp, min_assoc, min_self, Nat.zero_add]
  simp only [read7]
  exact congrArg (fun f => scaled f _ y1) (funext e)

/-- The sample's result array after the run is the reference's. -/
theorem final9 (c : Dev nD) : (dats m 0 c).arrAt 9 (cfgs 0).N = REFS m c := by
  refine (dats m 0 c).arrAt_eq_of_covers 9 _ (by decide +kernel) fun t hf y => ?_
  blk_simp
  rw [after0_9]
  have ht : 16 ≤ t.val := (by decide +kernel : ∀ t : Fin cfg0.N, (cfg0.win 9).flush t = true → 16 ≤ t.val) t hf
  have hA : ¬cond0_0 (grid0.coords t) := fun g => absurd ((hcond0_0 t).mp g) (not_lt.mpr ht)
  have hB : cond0_1 (grid0.coords t) := (hcond0_1 t).mpr ht
  obtain ⟨y0, y1, rfl⟩ : ∃ (y0 : Fin 512) (y1 : Fin 2048), y = ix2 y0 y1 := ⟨y 0, y 1, by
    funext i; fin_cases i <;> rfl⟩
  have h18 := lt18 t
  have hemb : (win0_9.blk t).view.emb (ix2 y0 y1)
      = (ix2 ⟨512 * (t.val - 16) + y0.val, by omega⟩ y1 : S1024x2048.Idx) := by
    blk_ext [idx t]
  refine (congrFun ((after9_B m c t hA hB).trans (outB_eq m c t hA hB)) (ix2 y0 y1)).trans ?_
  rw [hemb, blockOut_at, REFS, normS_at]
  have hp : 512 * t.val = 8192 + 512 * (t.val - 16) := by omega
  have e : ∀ k, row (b0 m c t) (b2 m c t) (b3 m c t) (b4 m c t) (b5 m c t) (b6 m c t) y0 k
      = mixS (aH m c) (aS m c) (aWe m c) (aGe m c) (aGg m c) (aWg m c) (ix2 ⟨512 * (t.val - 16) + y0.val, by omega⟩ k) := fun k => by
    rw [mixS_at, row]
    simp only [read0, read2, read3, read4, read5, read6]
    simp only [hp, Nat.add_assoc]
  simp only [read7]
  exact congrArg (fun f => scaled f _ y1) (funext e)

end Cert.Kernel3Ideal.Ple

end
-- ==== Proof.Mix.Row.lean ====
/- What the mixing call does to one row of 1024 numbers. -/
module

public import Idealize.ShloMosaic.Lib.Pointwise

@[expose] public section

set_option maxRecDepth 16384

noncomputable section

namespace Cert.Mix

open Idealize.ShloMosaic

/-- `gelu`, by the hyperbolic tangent. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The mean of a row. -/
def mean (x : Fin 1024 → EReal) : EReal := Ideal.div (∑ k, x k) (Ideal.ofBits .f32 0x44800000#32)

/-- `1 / sqrt (mean of the squares of a row + eps)`. -/
def rinv (x : Fin 1024 → EReal) : EReal := Ideal.rsqrt (mean (fun k => x k * x k) + Ideal.ofBits .f32 0x358637BD#32)

/-- The row normalised and scaled by `g`. -/
def scaled (x g : Fin 1024 → EReal) (b : Fin 1024) : EReal := x b * rinv x * g b

/-- The row less its mean, normalised, scaled by `g` and shifted by `b`. -/
def lnorm (x g b : Fin 1024 → EReal) (k : Fin 1024) : EReal := scaled (fun j => x j - mean x) g k + b k

end Cert.Mix

end
-- ==== Proof.Mix.Tile.lean ====
/- The mixing call: the chunks of 128 rows a grid point computes, and the block it stores. -/
module

public import proofs.«01_k».proof.Proof.Gen.Kernel4Ideal.Skeleton
public import proofs.«01_k».proof.Proof.Mix.Row
public import Idealize.ShloMosaic.Lib.Pointwise

@[expose] public section

set_option maxRecDepth 16384

noncomputable section

namespace Cert.Kernel4Ideal.Mix

open Cert.Kernel4Ideal Cert.Kernel4Ideal.Gen Idealize.ShloMosaic
open Cert.Mix (gelu mean rinv scaled lnorm)

section Chunk
variable (w0 w1 w2 w3 w4 w5 w6 w7 : FVec Ideal S128x128 .bf16) (V U : FVec Ideal S128x1024 .bf16) (G B Go : FVec Ideal S1x1024 .f32)
  (bias : FVec Ideal S128x1024 .f32)

/-- The normalised gate of a chunk. -/
def vnorm : FVec Ideal S128x1024 .f32 := k0_pay54 (k0_pay52 V) (k0_pay53 V) G B

/-- The rows mixed in eight groups of 128 columns, each by its own matrix. -/
def mixed (X : FVec Ideal S128x1024 .bf16) : FVec Ideal S128x1024 .f32 :=
  concatenate S128x1024 1 [⟨S128x128, matmul dot_S128x128_S128x128_S128x128_1_0_0_1_n_n none w0 (extractStridedSlice S128x128 ![0, 0] X slices_S128x1024_o0_0_S128x128) (constant S128x128 .f32 0x00000000#32)⟩,
    ⟨S128x128, matmul dot_S128x128_S128x128_S128x128_1_0_0_1_n_n none w1 (extractStridedSlice S128x128 ![0, 128] X slices_S128x1024_o0_128_S128x128) (constant S128x128 .f32 0x00000000#32)⟩,
    ⟨S128x128, matmul dot_S128x128_S128x128_S128x128_1_0_0_1_n_n none w2 (extractStridedSlice S128x128 ![0, 256] X slices_S128x1024_o0_256_S128x128) (constant S128x128 .f32 0x00000000#32)⟩,
    ⟨S128x128, matmul dot_S128x128_S128x128_S128x128_1_0_0_1_n_n none w3 (extractStridedSlice S128x128 ![0, 384] X slices_S128x1024_o0_384_S128x128) (constant S128x128 .f32 0x00000000#32)⟩,
    ⟨S128x128, matmul dot_S128x128_S128x128_S128x128_1_0_0_1_n_n none w4 (extractStridedSlice S128x128 ![0, 512] X slices_S128x1024_o0_512_S128x128) (constant S128x128 .f32 0x00000000#32)⟩,
    ⟨S128x128, matmul dot_S128x128_S128x128_S128x128_1_0_0_1_n_n none w5 (extractStridedSlice S128x128 ![0, 640] X slices_S128x1024_o0_640_S128x128) (constant S128x128 .f32 0x00000000#32)⟩,
    ⟨S128x128, matmul dot_S128x128_S128x128_S128x128_1_0_0_1_n_n none w6 (extractStridedSlice S128x128 ![0, 768] X slices_S128x1024_o0_768_S128x128) (constant S128x128 .f32 0x00000000#32)⟩,
    ⟨S128x128, matmul dot_S128x128_S128x128_S128x128_1_0_0_1_n_n none w7 (extractStridedSlice S128x128 ![0, 896] X slices_S128x1024_o0_896_S128x128) (constant S128x128 .f32 0x00000000#32)⟩] concatenates_S128x128_S128x128_S128x128_S128x128_S128x128_S128x128_S128x128_S128x128_S128x1024_d1

/-- `gelu` of a chunk. -/
def geluB (X : FVec Ideal S128x1024 .bf16) : FVec Ideal S128x1024 .f32 :=
  mulf (extf .f32 X bitsLt_bf16_f32) (mulf (broadcast S128x1024 (Scalar.ofBits .f32 0x3F000000#32 : Ideal .f32)) (k0_pay53 X))

/-- A chunk's rows normalised and scaled by `Go`. -/
def normB (X : FVec Ideal S128x1024 .f32) (Go : FVec Ideal S1x1024 .f32) : FVec Ideal S128x1024 .bf16 := k0_pay29 X Go

/-- A chunk: `gelu u` times the mixed gate, normalised. -/
def chunk : FVec Ideal S128x1024 .bf16 :=
  normB (mulf (geluB U) (addf (mixed w0 w1 w2 w3 w4 w5 w6 w7 (truncf .bf16 (vnorm V G B) bitsLt_bf16_f32)) (shapeCast S128x1024 bias shapeCasts_S128x1024_S128x1024))) Go

theorem chunkA0 : k0_pay24 w7 (k0_pay16 w0 (k0_pay13 V) (k0_pay14 V) G B) (k0_pay17 w1 (k0_pay13 V) (k0_pay14 V) G B) (k0_pay18 w2 (k0_pay13 V) (k0_pay14 V) G B) (k0_pay19 w3 (k0_pay13 V) (k0_pay14 V) G B) (k0_pay20 w4 (k0_pay13 V) (k0_pay14 V) G B) (k0_pay21 w5 (k0_pay13 V) (k0_pay14 V) G B) (k0_pay22 w6 (k0_pay13 V) (k0_pay14 V) G B) (k0_pay23 (k0_pay13 V) (k0_pay14 V) G B) bias U Go = chunk w0 w1 w2 w3 w4 w5 w6 w7 V U G B Go bias := rfl

theorem chunkA1 : k0_pay29 (k0_pay28 w0 w1 w2 w3 w4 w5 w6 w7 (k0_pay27 V G) B bias U) Go = chunk w0 w1 w2 w3 w4 w5 w6 w7 V U G B Go bias := rfl

theorem chunkA2 : k0_pay34 (k0_pay33 w0 w1 w2 w3 w4 w5 w6 w7 (k0_pay31 V) (k0_pay32 V) G B) bias U Go = chunk w0 w1 w2 w3 w4 w5 w6 w7 V U G B Go bias := rfl

theorem chunkB0 : k0_pay62 w6 w7 (k0_pay55 (k0_pay52 V) (k0_pay53 V) G B) (k0_pay56 w0 (k0_pay52 V) (k0_pay53 V) G B) (k0_pay57 w1 (k0_pay52 V) (k0_pay53 V) G B) (k0_pay58 w2 (k0_pay52 V) (k0_pay53 V) G B) (k0_pay59 w3 (k0_pay52 V) (k0_pay53 V) G B) (k0_pay60 w4 (k0_pay52 V) (k0_pay53 V) G B) (k0_pay61 w5 (k0_pay52 V) (k0_pay53 V) G B) bias U Go = chunk w0 w1 w2 w3 w4 w5 w6 w7 V U G B Go bias := rfl

theorem chunkB1 : k0_pay71 (k0_pay68 w0 w1 w2 w3 w4 w5 w6 w7 (k0_pay65 V) (k0_pay66 G) B bias) (k0_pay69 U) (k0_pay70 U) Go = chunk w0 w1 w2 w3 w4 w5 w6 w7 V U G B Go bias := rfl

theorem chunkB2 : k0_pay83 w5 w6 w7 (k0_pay76 (k0_pay73 V) (k0_pay74 V) (FloatOps.ofBits FTy.f32 1065353216#32) G B) (k0_pay77 w0 (k0_pay73 V) (k0_pay74 V) (FloatOps.ofBits FTy.f32 1065353216#32) G B) (k0_pay78 w1 (k0_pay73 V) (k0_pay74 V) (FloatOps.ofBits FTy.f32 1065353216#32) G B) (k0_pay79 w2 (k0_pay73 V) (k0_pay74 V) (FloatOps.ofBits FTy.f32 1065353216#32) G B) (k0_pay80 w3 (k0_pay73 V) (k0_pay74 V) (FloatOps.ofBits FTy.f32 1065353216#32) G B) (k0_pay81 w4 (k0_pay73 V) (k0_pay74 V) (FloatOps.ofBits FTy.f32 1065353216#32) G B) (k0_pay82 (k0_pay73 V) (k0_pay74 V) (FloatOps.ofBits FTy.f32 1065353216#32) G B) bias U Go = chunk w0 w1 w2 w3 w4 w5 w6 w7 V U G B Go bias := rfl

/-- The block a point stores: the rows with the attention's part, and the four chunks times the second half of the weights. -/
def tileOut (acc : FVec Ideal S512x2048 .f32) (c0 c1 c2 c3 : FVec Ideal S128x1024 .bf16) (wm : FVec Ideal S1024x2048 .bf16) :
    FVec Ideal S512x2048 .f32 :=
  addf acc (matmul dot_S512x1024_S1024x2048_S512x2048_1_0_0_1_n_n none (concatenate S512x1024 0 [⟨S128x1024, c0⟩, ⟨S128x1024, c1⟩, ⟨S128x1024, c2⟩, ⟨S128x1024, c3⟩] concatenates_S128x1024_S128x1024_S128x1024_S128x1024_S512x1024_d0) (shapeCast S1024x2048 wm shapeCasts_S1024x2048_S1024x2048) (constant S512x2048 .f32 0x00000000#32))

theorem tileA (acc : FVec Ideal S512x2048 .f32) (c0 c1 c2 : FVec Ideal S128x1024 .bf16) (wm : FVec Ideal S1024x2048 .bf16) :
    k0_pay1 c0 c1 c2 (k0_pay39 w0 w1 w2 w3 w4 w5 w6 w7 (k0_pay37 V G B) (k0_pay38 V G B) bias U) (k0_pay40 Go) (k0_pay41 w0 w1 w2 w3 w4 w5 w6 w7 (k0_pay37 V G B) (k0_pay38 V G B) bias U) (FloatOps.ofBits FTy.f32 1149239296#32) acc wm = tileOut acc c0 c1 c2 (chunk w0 w1 w2 w3 w4 w5 w6 w7 V U G B Go bias) wm := rfl

theorem tileB (acc : FVec Ideal S512x2048 .f32) (c0 c1 c2 : FVec Ideal S128x1024 .bf16) (wm : FVec Ideal S1024x2048 .bf16) :
    k0_pay2 c0 c1 c2 (k0_pay88 w0 w1 w2 w3 w4 w5 w6 w7 (k0_pay86 V) G B bias) (k0_pay89 U) (k0_pay90 U) (FloatOps.ofBits FTy.f32 1065353216#32) Go acc wm = tileOut acc c0 c1 c2 (chunk w0 w1 w2 w3 w4 w5 w6 w7 V U G B Go bias) wm := rfl

end Chunk

/-! ## The parts of a chunk, read at an index -/

theorem vnorm_at (V : FVec Ideal S128x1024 .bf16) (G B : FVec Ideal S1x1024 .f32) (a : Fin 128) (b : Fin 1024) :
    vnorm V G B (ix2 a b) = lnorm (fun k => gelu (V (ix2 a k))) (fun k => G (ix2 0 k)) (fun k => B (ix2 0 k)) b := by
  pointwise [vnorm, k0_pay54, k0_pay53, k0_pay52, lnorm, scaled, rinv, mean, gelu]

theorem geluB_at (X : FVec Ideal S128x1024 .bf16) (a : Fin 128) (b : Fin 1024) : geluB X (ix2 a b) = gelu (X (ix2 a b)) := by
  pointwise [geluB, k0_pay53, k0_pay52, gelu]

theorem normB_at (X : FVec Ideal S128x1024 .f32) (Go : FVec Ideal S1x1024 .f32) (a : Fin 128) (b : Fin 1024) :
    normB X Go (ix2 a b) = scaled (fun k => X (ix2 a k)) (fun k => Go (ix2 0 k)) b := by
  pointwise [normB, k0_pay29, scaled, rinv, mean]

theorem mixed_at (w0 w1 w2 w3 w4 w5 w6 w7 : FVec Ideal S128x128 .bf16) (X : FVec Ideal S128x1024 .bf16) (W : Fin 8 → Fin 128 → Fin 128 → EReal)
    (h0 : ∀ a s, w0 (ix2 a s) = W 0 a s)
    (h1 : ∀ a s, w1 (ix2 a s) = W 1 a s)
    (h2 : ∀ a s, w2 (ix2 a s) = W 2 a s)
    (h3 : ∀ a s, w3 (ix2 a s) = W 3 a s)
    (h4 : ∀ a s, w4 (ix2 a s) = W 4 a s)
    (h5 : ∀ a s, w5 (ix2 a s) = W 5 a s)
    (h6 : ∀ a s, w6 (ix2 a s) = W 6 a s)
    (h7 : ∀ a s, w7 (ix2 a s) = W 7 a s) (a : Fin 128) (b : Fin 1024) :
    mixed w0 w1 w2 w3 w4 w5 w6 w7 X (ix2 a b) = ∑ s, W ⟨b.val / 128, by omega⟩ a s * X (ix2 s b) := by
  pointwise [mixed]
  have hb := b.isLt
  split_ifs
  all_goals
    refine Finset.sum_congr rfl fun s _ => ?_
    simp only [h0, h1, h2, h3, h4, h5, h6, h7]
    refine congrArg₂ (· * ·) (congrArg (W · a s) (Fin.ext ?_)) (congrArg (fun k => X (ix2 s k)) (Fin.ext ?_))
    · simp only [Fin.isValue, Fin.val_zero, Fin.val_one, Fin.coe_ofNat_eq_mod]; omega
    · first
        | rfl
        | (dsimp only; omega)

theorem tileOut_at (acc : FVec Ideal S512x2048 .f32) (c0 c1 c2 c3 : FVec Ideal S128x1024 .bf16) (wm : FVec Ideal S1024x2048 .bf16)
    (R : Fin 512 → Fin 1024 → EReal) (h0 : ∀ (a : Fin 128) k, c0 (ix2 a k) = R ⟨a.val, by omega⟩ k)
    (h1 : ∀ (a : Fin 128) k, c1 (ix2 a k) = R ⟨128 + a.val, by omega⟩ k) (h2 : ∀ (a : Fin 128) k, c2 (ix2 a k) = R ⟨256 + a.val, by omega⟩ k)
    (h3 : ∀ (a : Fin 128) k, c3 (ix2 a k) = R ⟨384 + a.val, by omega⟩ k) (a : Fin 512) (b : Fin 2048) :
    tileOut acc c0 c1 c2 c3 wm (ix2 a b) = acc (ix2 a b) + ∑ k, R a k * wm (ix2 k b) := by
  pointwise [tileOut]
  congr 1
  refine Finset.sum_congr rfl fun k _ => congrArg (· * wm (ix2 k b)) ?_
  have ha := a.isLt
  split_ifs
  all_goals
    simp only [h0, h1, h2, h3] <;> exact congrArg (R · k) (Fin.ext (by first | rfl | (dsimp only; omega)))

end Cert.Kernel4Ideal.Mix

end
-- ==== Proof.Mix.Block.lean ====
/- The mixing call: the block one grid point stores, from its input blocks. -/
module

public import proofs.«01_k».proof.Proof.Mix.Tile
public import Idealize.ShloMosaic.Lib.Pipeline.ValueKit
public import Idealize.ShloMosaic.Lib.Claim

@[expose] public section

set_option maxRecDepth 16384

noncomputable section

namespace Cert.Kernel4Ideal.Mix

open Cert.Kernel4Ideal Cert.Kernel4Ideal.Gen Idealize.ShloMosaic Idealize.ShloMosaic.TcCoe Idealize.SL.Sem
open Cert.Mix (gelu mean rinv scaled lnorm)

section Block
variable (M : IVec S128x128 1) (h : FVec Ideal S512x2048 .f32) (op u v : FVec Ideal S512x1024 .bf16) (G B : FVec Ideal S1x1024 .f32)
  (w : FVec Ideal S8x128x128 .f32) (bias : FVec Ideal S128x1024 .f32) (Go : FVec Ideal S1x1024 .f32) (wo wm : FVec Ideal S1024x2048 .bf16)

/-- The whole of a block. -/
abbrev wholeRect : Rect S512x2048 := Rect.unit ![0, 0] ![512, 2048] inb_S512x2048_S512x2048_0_0

/-- The rows with the attention's part, as the scratch buffer holds them: four tiles side by side. -/
def accOut : FVec Ideal S512x2048 .f32 :=
  View.readCov (Val := Elt Ideal) (s := S512x2048) (e := .f32) (View.whole cc0_scratch0)
    [(⟨Rect.unit ![0, 1536] ![512, 512] inb_S512x2048_S512x512_0_1536, k0_pay12 (View.ld (Val := Elt Ideal) (S := S512x2048) (e' := .f32) h (Rect.unit ![0, 1536] ![512, 512] inb_S512x2048_S512x512_0_1536)) op (View.ld (Val := Elt Ideal) (S := S1024x2048) (e' := .bf16) wo (Rect.unit ![0, 1536] ![1024, 512] inb_S1024x2048_S1024x512_0_1536))⟩ : View.Piece (Elt Ideal) S512x2048 .f32),
      (⟨Rect.unit ![0, 1024] ![512, 512] inb_S512x2048_S512x512_0_1024, k0_pay12 (View.ld (Val := Elt Ideal) (S := S512x2048) (e' := .f32) h (Rect.unit ![0, 1024] ![512, 512] inb_S512x2048_S512x512_0_1024)) op (View.ld (Val := Elt Ideal) (S := S1024x2048) (e' := .bf16) wo (Rect.unit ![0, 1024] ![1024, 512] inb_S1024x2048_S1024x512_0_1024))⟩ : View.Piece (Elt Ideal) S512x2048 .f32),
      (⟨Rect.unit ![0, 512] ![512, 512] inb_S512x2048_S512x512_0_512, k0_pay12 (View.ld (Val := Elt Ideal) (S := S512x2048) (e' := .f32) h (Rect.unit ![0, 512] ![512, 512] inb_S512x2048_S512x512_0_512)) op (View.ld (Val := Elt Ideal) (S := S1024x2048) (e' := .bf16) wo (Rect.unit ![0, 512] ![1024, 512] inb_S1024x2048_S1024x512_0_512))⟩ : View.Piece (Elt Ideal) S512x2048 .f32),
      (⟨Rect.unit ![0, 0] ![512, 512] inb_S512x2048_S512x512_0_0, k0_pay12 (View.ld (Val := Elt Ideal) (S := S512x2048) (e' := .f32) h (Rect.unit ![0, 0] ![512, 512] inb_S512x2048_S512x512_0_0)) op (View.ld (Val := Elt Ideal) (S := S1024x2048) (e' := .bf16) wo (Rect.unit ![0, 0] ![1024, 512] inb_S1024x2048_S1024x512_0_0))⟩ : View.Piece (Elt Ideal) S512x2048 .f32)]
    wholeRect.toLoadRect

/-- The block a point stores. -/
def block : FVec Ideal S512x2048 .f32 :=
  tileOut (accOut h op wo)
    (chunk (k0_pay9 M (View.ld (Val := Elt Ideal) (S := S8x128x128) (e' := .f32) w (Rect.unit ![0, 0, 0] ![1, 128, 128] inb_S8x128x128_S1x128x128_0_0_0))) (k0_pay9 M (View.ld (Val := Elt Ideal) (S := S8x128x128) (e' := .f32) w (Rect.unit ![1, 0, 0] ![1, 128, 128] inb_S8x128x128_S1x128x128_1_0_0))) (k0_pay9 M (View.ld (Val := Elt Ideal) (S := S8x128x128) (e' := .f32) w (Rect.unit ![2, 0, 0] ![1, 128, 128] inb_S8x128x128_S1x128x128_2_0_0))) (k0_pay9 M (View.ld (Val := Elt Ideal) (S := S8x128x128) (e' := .f32) w (Rect.unit ![3, 0, 0] ![1, 128, 128] inb_S8x128x128_S1x128x128_3_0_0))) (k0_pay9 M (View.ld (Val := Elt Ideal) (S := S8x128x128) (e' := .f32) w (Rect.unit ![4, 0, 0] ![1, 128, 128] inb_S8x128x128_S1x128x128_4_0_0))) (k0_pay9 M (View.ld (Val := Elt Ideal) (S := S8x128x128) (e' := .f32) w (Rect.unit ![5, 0, 0] ![1, 128, 128] inb_S8x128x128_S1x128x128_5_0_0))) (k0_pay9 M (View.ld (Val := Elt Ideal) (S := S8x128x128) (e' := .f32) w (Rect.unit ![6, 0, 0] ![1, 128, 128] inb_S8x128x128_S1x128x128_6_0_0))) (k0_pay9 M (View.ld (Val := Elt Ideal) (S := S8x128x128) (e' := .f32) w (Rect.unit ![7, 0, 0] ![1, 128, 128] inb_S8x128x128_S1x128x128_7_0_0))) (View.ld (Val := Elt Ideal) (S := S512x1024) (e' := .bf16) v (Rect.unit ![0, 0] ![128, 1024] inb_S512x1024_S128x1024_0_0)) (View.ld (Val := Elt Ideal) (S := S512x1024) (e' := .bf16) u (Rect.unit ![0, 0] ![128, 1024] inb_S512x1024_S128x1024_0_0)) G B Go bias)
    (chunk (k0_pay9 M (View.ld (Val := Elt Ideal) (S := S8x128x128) (e' := .f32) w (Rect.unit ![0, 0, 0] ![1, 128, 128] inb_S8x128x128_S1x128x128_0_0_0))) (k0_pay9 M (View.ld (Val := Elt Ideal) (S := S8x128x128) (e' := .f32) w (Rect.unit ![1, 0, 0] ![1, 128, 128] inb_S8x128x128_S1x128x128_1_0_0))) (k0_pay9 M (View.ld (Val := Elt Ideal) (S := S8x128x128) (e' := .f32) w (Rect.unit ![2, 0, 0] ![1, 128, 128] inb_S8x128x128_S1x128x128_2_0_0))) (k0_pay9 M (View.ld (Val := Elt Ideal) (S := S8x128x128) (e' := .f32) w (Rect.unit ![3, 0, 0] ![1, 128, 128] inb_S8x128x128_S1x128x128_3_0_0))) (k0_pay9 M (View.ld (Val := Elt Ideal) (S := S8x128x128) (e' := .f32) w (Rect.unit ![4, 0, 0] ![1, 128, 128] inb_S8x128x128_S1x128x128_4_0_0))) (k0_pay9 M (View.ld (Val := Elt Ideal) (S := S8x128x128) (e' := .f32) w (Rect.unit ![5, 0, 0] ![1, 128, 128] inb_S8x128x128_S1x128x128_5_0_0))) (k0_pay9 M (View.ld (Val := Elt Ideal) (S := S8x128x128) (e' := .f32) w (Rect.unit ![6, 0, 0] ![1, 128, 128] inb_S8x128x128_S1x128x128_6_0_0))) (k0_pay9 M (View.ld (Val := Elt Ideal) (S := S8x128x128) (e' := .f32) w (Rect.unit ![7, 0, 0] ![1, 128, 128] inb_S8x128x128_S1x128x128_7_0_0))) (View.ld (Val := Elt Ideal) (S := S512x1024) (e' := .bf16) v (Rect.unit ![128, 0] ![128, 1024] inb_S512x1024_S128x1024_128_0)) (View.ld (Val := Elt Ideal) (S := S512x1024) (e' := .bf16) u (Rect.unit ![128, 0] ![128, 1024] inb_S512x1024_S128x1024_128_0)) G B Go bias)
    (chunk (k0_pay9 M (View.ld (Val := Elt Ideal) (S := S8x128x128) (e' := .f32) w (Rect.unit ![0, 0, 0] ![1, 128, 128] inb_S8x128x128_S1x128x128_0_0_0))) (k0_pay9 M (View.ld (Val := Elt Ideal) (S := S8x128x128) (e' := .f32) w (Rect.unit ![1, 0, 0] ![1, 128, 128] inb_S8x128x128_S1x128x128_1_0_0))) (k0_pay9 M (View.ld (Val := Elt Ideal) (S := S8x128x128) (e' := .f32) w (Rect.unit ![2, 0, 0] ![1, 128, 128] inb_S8x128x128_S1x128x128_2_0_0))) (k0_pay9 M (View.ld (Val := Elt Ideal) (S := S8x128x128) (e' := .f32) w (Rect.unit ![3, 0, 0] ![1, 128, 128] inb_S8x128x128_S1x128x128_3_0_0))) (k0_pay9 M (View.ld (Val := Elt Ideal) (S := S8x128x128) (e' := .f32) w (Rect.unit ![4, 0, 0] ![1, 128, 128] inb_S8x128x128_S1x128x128_4_0_0))) (k0_pay9 M (View.ld (Val := Elt Ideal) (S := S8x128x128) (e' := .f32) w (Rect.unit ![5, 0, 0] ![1, 128, 128] inb_S8x128x128_S1x128x128_5_0_0))) (k0_pay9 M (View.ld (Val := Elt Ideal) (S := S8x128x128) (e' := .f32) w (Rect.unit ![6, 0, 0] ![1, 128, 128] inb_S8x128x128_S1x128x128_6_0_0))) (k0_pay9 M (View.ld (Val := Elt Ideal) (S := S8x128x128) (e' := .f32) w (Rect.unit ![7, 0, 0] ![1, 128, 128] inb_S8x128x128_S1x128x128_7_0_0))) (View.ld (Val := Elt Ideal) (S := S512x1024) (e' := .bf16) v (Rect.unit ![256, 0] ![128, 1024] inb_S512x1024_S128x1024_256_0)) (View.ld (Val := Elt Ideal) (S := S512x1024) (e' := .bf16) u (Rect.unit ![256, 0] ![128, 1024] inb_S512x1024_S128x1024_256_0)) G B Go bias)
    (chunk (k0_pay9 M (View.ld (Val := Elt Ideal) (S := S8x128x128) (e' := .f32) w (Rect.unit ![0, 0, 0] ![1, 128, 128] inb_S8x128x128_S1x128x128_0_0_0))) (k0_pay9 M (View.ld (Val := Elt Ideal) (S := S8x128x128) (e' := .f32) w (Rect.unit ![1, 0, 0] ![1, 128, 128] inb_S8x128x128_S1x128x128_1_0_0))) (k0_pay9 M (View.ld (Val := Elt Ideal) (S := S8x128x128) (e' := .f32) w (Rect.unit ![2, 0, 0] ![1, 128, 128] inb_S8x128x128_S1x128x128_2_0_0))) (k0_pay9 M (View.ld (Val := Elt Ideal) (S := S8x128x128) (e' := .f32) w (Rect.unit ![3, 0, 0] ![1, 128, 128] inb_S8x128x128_S1x128x128_3_0_0))) (k0_pay9 M (View.ld (Val := Elt Ideal) (S := S8x128x128) (e' := .f32) w (Rect.unit ![4, 0, 0] ![1, 128, 128] inb_S8x128x128_S1x128x128_4_0_0))) (k0_pay9 M (View.ld (Val := Elt Ideal) (S := S8x128x128) (e' := .f32) w (Rect.unit ![5, 0, 0] ![1, 128, 128] inb_S8x128x128_S1x128x128_5_0_0))) (k0_pay9 M (View.ld (Val := Elt Ideal) (S := S8x128x128) (e' := .f32) w (Rect.unit ![6, 0, 0] ![1, 128, 128] inb_S8x128x128_S1x128x128_6_0_0))) (k0_pay9 M (View.ld (Val := Elt Ideal) (S := S8x128x128) (e' := .f32) w (Rect.unit ![7, 0, 0] ![1, 128, 128] inb_S8x128x128_S1x128x128_7_0_0))) (View.ld (Val := Elt Ideal) (S := S512x1024) (e' := .bf16) v (Rect.unit ![384, 0] ![128, 1024] inb_S512x1024_S128x1024_384_0)) (View.ld (Val := Elt Ideal) (S := S512x1024) (e' := .bf16) u (Rect.unit ![384, 0] ![128, 1024] inb_S512x1024_S128x1024_384_0)) G B Go bias)
    wm

theorem wt_at (x : FVec Ideal S1x128x128 .f32) (a s : Fin 128) :
    k0_pay9 (F := Ideal) M x (ix2 a s) = Scalar.select (M (ix2 a s)) (x (ix3 0 a s)) 0 := by
  pointwise [k0_pay9]

theorem acc_tile (hh : FVec Ideal S512x512 .f32) (oo : FVec Ideal S512x1024 .bf16) (ww : FVec Ideal S1024x512 .bf16) (a b : Fin 512) :
    k0_pay12 (F := Ideal) hh oo ww (ix2 a b) = hh (ix2 a b) + ∑ k, oo (ix2 a k) * ww (ix2 k b) := by
  pointwise [k0_pay12]

theorem acc_at (a : Fin 512) (b : Fin 2048) : accOut h op wo (ix2 a b) = h (ix2 a b) + ∑ k, op (ix2 a k) * wo (ix2 k b) := by
  let T : FVec Ideal S512x2048 .f32 := fun y => h y + ∑ k, op (ix2 (y 0) k) * wo (ix2 k (y 1))
  show _ = T (ix2 a b)
  unfold accOut
  rw [View.readCov_eq_canon']
  have e : wholeRect.toLoadRect.idx (ix2 a b) = (ix2 a b : S512x2048.Idx) := by
    funext i; fin_cases i <;> exact Fin.ext (by simp [LoadRect.idx, Rect.toLoadRect, Rect.unit, wholeRect])
  show View.canon _ (wholeRect.toLoadRect.idx (ix2 a b)) = _
  rw [e]
  canon_tiles x hx
  all_goals
    obtain ⟨x0, x1, rfl⟩ : ∃ (x0 : Fin 512) (x1 : Fin 512), x = ix2 x0 x1 := ⟨x 0, x 1, by
      funext i; fin_cases i <;> rfl⟩
    rw [acc_tile]
    obtain rfl : a = x0 := Fin.ext hx0
    first
      | rw [(Fin.ext hx1 : b = ⟨1536 + x1.val, by omega⟩)]
      | rw [(Fin.ext hx1 : b = ⟨1024 + x1.val, by omega⟩)]
      | rw [(Fin.ext hx1 : b = ⟨512 + x1.val, by omega⟩)]
      | rw [(Fin.ext hx1 : b = ⟨x1.val, by omega⟩)]
    show _ = h (ix2 a _) + ∑ k, op (ix2 a k) * wo (ix2 k _)
    pointwise

/-- A chunk's row, from the weights `W` and the chunk's rows. -/
theorem chunk_at (w0 w1 w2 w3 w4 w5 w6 w7 : FVec Ideal S128x128 .bf16) (V U : FVec Ideal S128x1024 .bf16) (W : Fin 8 → Fin 128 → Fin 128 → EReal)
    (h0 : ∀ a s, w0 (ix2 a s) = W 0 a s) (h1 : ∀ a s, w1 (ix2 a s) = W 1 a s) (h2 : ∀ a s, w2 (ix2 a s) = W 2 a s)
    (h3 : ∀ a s, w3 (ix2 a s) = W 3 a s) (h4 : ∀ a s, w4 (ix2 a s) = W 4 a s) (h5 : ∀ a s, w5 (ix2 a s) = W 5 a s)
    (h6 : ∀ a s, w6 (ix2 a s) = W 6 a s) (h7 : ∀ a s, w7 (ix2 a s) = W 7 a s) (a : Fin 128) (k : Fin 1024) :
    chunk w0 w1 w2 w3 w4 w5 w6 w7 V U G B Go bias (ix2 a k)
      = scaled (fun k => gelu (U (ix2 a k)) * ((∑ s, W ⟨k.val / 128, by omega⟩ a s
          * lnorm (fun l => gelu (V (ix2 s l))) (fun l => G (ix2 0 l)) (fun l => B (ix2 0 l)) k) + bias (ix2 a k)))
        (fun l => Go (ix2 0 l)) k := by
  unfold chunk
  rw [normB_at]
  congr 1
  funext j
  pointwise [geluB_at, mixed_at _ _ _ _ _ _ _ _ _ W h0 h1 h2 h3 h4 h5 h6 h7, vnorm_at]

/-- Row `a` of the four chunks. -/
def mrow (Q : Fin 128 → Fin 128 → Prop) [∀ a s, Decidable (Q a s)] (a : Fin 512) : Fin 1024 → EReal :=
  scaled (fun k => gelu (u (ix2 a k)) * ((∑ s : Fin 128, (if Q ⟨a.val % 128, by omega⟩ s then w (ix3 ⟨k.val / 128, by omega⟩ ⟨a.val % 128, by omega⟩ s) else 0)
      * lnorm (fun l => gelu (v (ix2 ⟨a.val / 128 * 128 + s.val, by omega⟩ l))) (fun l => G (ix2 0 l)) (fun l => B (ix2 0 l)) k)
        + bias (ix2 ⟨a.val % 128, by omega⟩ k)))
    (fun l => Go (ix2 0 l))

theorem block_at (Q : Fin 128 → Fin 128 → Prop) [∀ a s, Decidable (Q a s)] (hM : ∀ a s, M (ix2 a s) = if Q a s then 1#1 else 0#1)
    (a : Fin 512) (b : Fin 2048) : block M h op u v G B w bias Go wo wm (ix2 a b)
      = (h (ix2 a b) + ∑ k, op (ix2 a k) * wo (ix2 k b)) + ∑ k, mrow u v G B w bias Go Q a k * wm (ix2 k b) := by
  have hw : ∀ (x : FVec Ideal S1x128x128 .f32) (g : Fin 8) (hx : ∀ a s, x (ix3 0 a s) = w (ix3 g a s)) (a s : Fin 128),
      k0_pay9 (F := Ideal) M x (ix2 a s) = if Q a s then w (ix3 g a s) else 0 := fun x g hx a s => by
    rw [wt_at, hM, hx]
    split <;> rfl
  unfold block
  rw [tileOut_at _ _ _ _ _ _ (mrow u v G B w bias Go Q), acc_at]
  · intro a k
    rw [chunk_at _ _ _ _ _ _ _ _ _ _ _ _ _ _ (fun g a s => if Q a s then w (ix3 g a s) else 0)]
    · rw [mrow]
      have ha := a.isLt
      have e1 : (⟨(0 + a.val) % 128, by omega⟩ : Fin 128) = a := Fin.ext (by dsimp only; omega)
      have e2 : (0 + a.val) / 128 * 128 = 0 := by omega
      simp only [Nat.mod_eq_of_lt ha, Nat.div_eq_of_lt ha, Nat.zero_mul]
      congr 1
      funext j
      pointwise
    all_goals exact hw _ _ fun a s => by pointwise
  · intro a k
    rw [chunk_at _ _ _ _ _ _ _ _ _ _ _ _ _ _ (fun g a s => if Q a s then w (ix3 g a s) else 0)]
    · rw [mrow]
      have ha := a.isLt
      have e1 : (⟨(128 + a.val) % 128, by omega⟩ : Fin 128) = a := Fin.ext (by dsimp only; omega)
      have e2 : (128 + a.val) / 128 * 128 = 128 := by omega
      simp only [e1, e2]
      congr 1
      funext j
      pointwise
    all_goals exact hw _ _ fun a s => by pointwise
  · intro a k
    rw [chunk_at _ _ _ _ _ _ _ _ _ _ _ _ _ _ (fun g a s => if Q a s then w (ix3 g a s) else 0)]
    · rw [mrow]
      have ha := a.isLt
      have e1 : (⟨(256 + a.val) % 128, by omega⟩ : Fin 128) = a := Fin.ext (by dsimp only; omega)
      have e2 : (256 + a.val) / 128 * 128 = 256 := by omega
      simp only [e1, e2]
      congr 1
      funext j
      pointwise
    all_goals exact hw _ _ fun a s => by pointwise
  · intro a k
    rw [chunk_at _ _ _ _ _ _ _ _ _ _ _ _ _ _ (fun g a s => if Q a s then w (ix3 g a s) else 0)]
    · rw [mrow]
      have ha := a.isLt
      have e1 : (⟨(384 + a.val) % 128, by omega⟩ : Fin 128) = a := Fin.ext (by dsimp only; omega)
      have e2 : (384 + a.val) / 128 * 128 = 384 := by omega
      simp only [e1, e2]
      congr 1
      funext j
      pointwise
    all_goals exact hw _ _ fun a s => by pointwise

/-- The rows of the gate a sample point stores: four chunks, one below the other. -/
def gate (y : S512x1024.Idx) : EReal :=
  View.canon (Val := Elt Ideal) (s := S512x1024) (e := .f32)
    [(⟨Rect.unit ![384, 0] ![128, 1024] inb_S512x1024_S128x1024_384_0, vnorm (View.ld (Val := Elt Ideal) (S := S512x1024) (e' := .bf16) v (Rect.unit ![384, 0] ![128, 1024] inb_S512x1024_S128x1024_384_0)) G B⟩ : View.Piece (Elt Ideal) S512x1024 .f32),
      (⟨Rect.unit ![256, 0] ![128, 1024] inb_S512x1024_S128x1024_256_0, vnorm (View.ld (Val := Elt Ideal) (S := S512x1024) (e' := .bf16) v (Rect.unit ![256, 0] ![128, 1024] inb_S512x1024_S128x1024_256_0)) G B⟩ : View.Piece (Elt Ideal) S512x1024 .f32),
      (⟨Rect.unit ![128, 0] ![128, 1024] inb_S512x1024_S128x1024_128_0, vnorm (View.ld (Val := Elt Ideal) (S := S512x1024) (e' := .bf16) v (Rect.unit ![128, 0] ![128, 1024] inb_S512x1024_S128x1024_128_0)) G B⟩ : View.Piece (Elt Ideal) S512x1024 .f32),
      (⟨Rect.unit ![0, 0] ![128, 1024] inb_S512x1024_S128x1024_0_0, vnorm (View.ld (Val := Elt Ideal) (S := S512x1024) (e' := .bf16) v (Rect.unit ![0, 0] ![128, 1024] inb_S512x1024_S128x1024_0_0)) G B⟩ : View.Piece (Elt Ideal) S512x1024 .f32)] y

theorem gate_at (a : Fin 512) (b : Fin 1024) : gate v G B (ix2 a b)
    = lnorm (fun l => gelu (v (ix2 a l))) (fun l => G (ix2 0 l)) (fun l => B (ix2 0 l)) b := by
  let T : FVec Ideal S512x1024 .f32 := fun y => lnorm (fun l => gelu (v (ix2 (y 0) l))) (fun l => G (ix2 0 l)) (fun l => B (ix2 0 l)) (y 1)
  show _ = T (ix2 a b)
  unfold gate
  canon_tiles x hx
  all_goals
    obtain ⟨x0, x1, rfl⟩ : ∃ (x0 : Fin 128) (x1 : Fin 1024), x = ix2 x0 x1 := ⟨x 0, x 1, by
      funext i; fin_cases i <;> rfl⟩
    rw [vnorm_at]
    obtain rfl : b = x1 := Fin.ext hx1
    first
      | rw [(Fin.ext hx0 : a = ⟨384 + x0.val, by omega⟩)]
      | rw [(Fin.ext hx0 : a = ⟨256 + x0.val, by omega⟩)]
      | rw [(Fin.ext hx0 : a = ⟨128 + x0.val, by omega⟩)]
      | rw [(Fin.ext hx0 : a = ⟨x0.val, by omega⟩)]
    show _ = lnorm (fun l => gelu (v (ix2 _ l))) (fun l => G (ix2 0 l)) (fun l => B (ix2 0 l)) b
    pointwise

end Block

end Cert.Kernel4Ideal.Mix

end
-- ==== Proof.Mix.Out.lean ====
/- The mixing call: what each grid point leaves in its two output blocks. -/
module

public import proofs.«01_k».proof.Proof.Gen.Kernel4Ideal.Value
public import proofs.«01_k».proof.Proof.Mix.Block
public import Idealize.ShloMosaic.Lib.Pipeline.ValueKit
public import Idealize.ShloMosaic.Lib.Claim

@[expose] public section

set_option maxRecDepth 16384

noncomputable section

namespace Cert.Kernel4Ideal.Mix

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-! The input blocks of point `t`. -/

abbrev b0 (c : Dev nD) (t : Fin cfg0.N) : FVec Ideal S512x2048 .f32 := iblk m c 0 t
abbrev b1 (c : Dev nD) (t : Fin cfg0.N) : FVec Ideal S512x2048 .f32 := iblk m c 1 t
abbrev b2 (c : Dev nD) (t : Fin cfg0.N) : FVec Ideal S512x1024 .bf16 := iblk m c 2 t
abbrev b3 (c : Dev nD) (t : Fin cfg0.N) : FVec Ideal S512x1024 .bf16 := iblk m c 3 t
abbrev b4 (c : Dev nD) (t : Fin cfg0.N) : FVec Ideal S512x1024 .bf16 := iblk m c 4 t
abbrev b5 (c : Dev nD) (t : Fin cfg0.N) : FVec Ideal S512x1024 .bf16 := iblk m c 5 t
abbrev b6 (c : Dev nD) (t : Fin cfg0.N) : FVec Ideal S512x1024 .bf16 := iblk m c 6 t
abbrev b7 (c : Dev nD) (t : Fin cfg0.N) : FVec Ideal S512x1024 .bf16 := iblk m c 7 t
abbrev b8 (c : Dev nD) (t : Fin cfg0.N) : FVec Ideal S1x1024 .f32 := iblk m c 8 t
abbrev b9 (c : Dev nD) (t : Fin cfg0.N) : FVec Ideal S1x1024 .f32 := iblk m c 9 t
abbrev b10 (c : Dev nD) (t : Fin cfg0.N) : FVec Ideal S8x128x128 .f32 := iblk m c 10 t
abbrev b11 (c : Dev nD) (t : Fin cfg0.N) : FVec Ideal S128x1024 .f32 := iblk m c 11 t
abbrev b12 (c : Dev nD) (t : Fin cfg0.N) : FVec Ideal S8x128x128 .f32 := iblk m c 12 t
abbrev b13 (c : Dev nD) (t : Fin cfg0.N) : FVec Ideal S128x1024 .f32 := iblk m c 13 t
abbrev b14 (c : Dev nD) (t : Fin cfg0.N) : FVec Ideal S1x1024 .f32 := iblk m c 14 t
abbrev b15 (c : Dev nD) (t : Fin cfg0.N) : FVec Ideal S1024x2048 .bf16 := iblk m c 15 t
abbrev b16 (c : Dev nD) (t : Fin cfg0.N) : FVec Ideal S1024x2048 .bf16 := iblk m c 16 t

/-- What a prompt point leaves. -/
theorem outA (c : Dev nD) (t : Fin cfg0.N) (h0 : t.val < 16) (h1 : ¬16 ≤ t.val) (y : S512x2048.Idx) :
    (outsAt0 m c t t.isLt).1 y = block k0_pay3 (b0 m c t) (b2 m c t) (b4 m c t) (b5 m c t) (b8 m c t) (b9 m c t) (b10 m c t) (b11 m c t) (b14 m c t) (b15 m c t) (b16 m c t) y := by
  rw [outsAt0_A m c t h0 h1]
  frame_out
  rfl

/-- What a sample point leaves. -/
theorem outB (c : Dev nD) (t : Fin cfg0.N) (h0 : ¬t.val < 16) (h1 : 16 ≤ t.val) (y : S512x2048.Idx) :
    (outsAt0 m c t t.isLt).1 y = block k0_pay42 (b1 m c t) (b3 m c t) (b6 m c t) (b7 m c t) (b8 m c t) (b9 m c t) (b12 m c t) (b13 m c t) (b14 m c t) (b15 m c t) (b16 m c t) y := by
  rw [outsAt0_B m c t h0 h1]
  frame_out
  rfl

/-- The gate a sample point leaves. -/
theorem outV (c : Dev nD) (t : Fin cfg0.N) (h0 : ¬t.val < 16) (h1 : 16 ≤ t.val) (y : S512x1024.Idx) :
    (outsAt0 m c t t.isLt).2 y = gate (b7 m c t) (b8 m c t) (b9 m c t) y := by
  rw [outsAt0_B m c t h0 h1]
  frame_out
  rfl

end Cert.Kernel4Ideal.Mix

end
-- ==== Proof.Mix.Reads.lean ====
/- The mixing call: the blocks of a grid point, as parts of the arguments. -/
module

public import proofs.«01_k».proof.Proof.Mix.Out

@[expose] public section

set_option maxRecDepth 16384

noncomputable section

namespace Cert.Kernel4Ideal.Mix

open Cert.Kernel4Ideal Cert.Kernel4Ideal.Gen Idealize.ShloMosaic Idealize.ShloMosaic.TcCoe Idealize.SL.Sem

variable (m : (ℓ : Loc nD τ sig) → Buf (Elt Ideal) ℓ)

/-! Which block of its array each window has at point `t`. -/

theorem idx : ∀ t : Fin cfg0.N, win0_0.index t = ![min t.val 15, 0] ∧ win0_1.index t = ![t.val - 16, 0] ∧ win0_2.index t = ![min t.val 15, 0] ∧ win0_3.index t = ![t.val - 16, 0] ∧ win0_4.index t = ![min t.val 15, 3] ∧ win0_5.index t = ![min t.val 15, 4] ∧ win0_6.index t = ![t.val - 16, 3] ∧ win0_7.index t = ![t.val - 16, 4] ∧ win0_8.index t = ![0, 0] ∧ win0_9.index t = ![0, 0] ∧ win0_10.index t = ![0, 0, 0] ∧ win0_11.index t = ![0, 0] ∧ win0_12.index t = ![0, 0, 0] ∧ win0_13.index t = ![0, 0] ∧ win0_14.index t = ![0, 0] ∧ win0_15.index t = ![0, 0] ∧ win0_16.index t = ![1, 0] ∧ win0_17.index t = ![t.val, 0] ∧ win0_18.index t = ![t.val - 16, 0] :=
  (by decide +kernel : ∀ t : Fin grid0.N, _)

theorem lt18 (t : Fin cfg0.N) : t.val < 18 := t.isLt

/-! The arguments. -/

abbrev a0 (c : Dev nD) : FVec Ideal S4x2048x2048 .f32 := m ((c : Thread nD τ).loc main_arg0)
abbrev a1 (c : Dev nD) : FVec Ideal S128x8x2048 .f32 := m ((c : Thread nD τ).loc main_arg1)
abbrev a2 (c : Dev nD) : FVec Ideal S8192x1024 .bf16 := m ((c : Thread nD τ).loc main_arg2)
abbrev a3 (c : Dev nD) : FVec Ideal S1024x1024 .bf16 := m ((c : Thread nD τ).loc main_arg3)
abbrev a4 (c : Dev nD) : FVec Ideal S8192x5120 .bf16 := m ((c : Thread nD τ).loc main_arg4)
abbrev a5 (c : Dev nD) : FVec Ideal S1024x5120 .bf16 := m ((c : Thread nD τ).loc main_arg5)
abbrev a6 (c : Dev nD) : FVec Ideal S1x1024 .f32 := m ((c : Thread nD τ).loc main_arg6)
abbrev a7 (c : Dev nD) : FVec Ideal S1x1024 .f32 := m ((c : Thread nD τ).loc main_arg7)
abbrev a8 (c : Dev nD) : FVec Ideal S1x8x128x128 .f32 := m ((c : Thread nD τ).loc main_arg8)
abbrev a9 (c : Dev nD) : FVec Ideal S1x8x128 .f32 := m ((c : Thread nD τ).loc main_arg9)
abbrev a10 (c : Dev nD) : FVec Ideal S1x1024 .f32 := m ((c : Thread nD τ).loc main_arg10)
abbrev a11 (c : Dev nD) : FVec Ideal S1x2048x2048 .f32 := m ((c : Thread nD τ).loc main_arg11)

/-! Each block, read at an index. -/

theorem read0 (c : Dev nD) (t : Fin cfg0.N) (a : Fin 512) (k : Fin 2048) : b0 m c t (ix2 a k)
    = a0 m c (ix3 ⟨(512 * min t.val 15 + a.val) / 2048, by omega⟩ ⟨(512 * min t.val 15 + a.val) % 2048, by omega⟩ k) := by
  blk_simp [b0, iblk, idx t]
  entry_read
  pointwise
  blk_ext [idx t]

theorem read1 (c : Dev nD) (t : Fin cfg0.N) (a : Fin 512) (k : Fin 2048) : b1 m c t (ix2 a k)
    = a1 m c (ix3 ⟨(512 * (t.val - 16) + a.val) / 8, by have := lt18 t; omega⟩ ⟨(512 * (t.val - 16) + a.val) % 8, by omega⟩ k) := by
  blk_simp [b1, iblk, idx t]
  entry_read
  pointwise
  blk_ext [idx t]

theorem read2 (c : Dev nD) (t : Fin cfg0.N) (a : Fin 512) (k : Fin 1024) : b2 m c t (ix2 a k)
    = a2 m c (ix2 ⟨512 * min t.val 15 + a.val, by omega⟩ k) := by
  blk_ext [b2, iblk, V, idx t]

theorem read3 (c : Dev nD) (t : Fin cfg0.N) (a : Fin 512) (k : Fin 1024) : b3 m c t (ix2 a k)
    = a3 m c (ix2 ⟨512 * (t.val - 16) + a.val, by have := lt18 t; omega⟩ k) := by
  blk_ext [b3, iblk, V, idx t]

theorem read4 (c : Dev nD) (t : Fin cfg0.N) (a : Fin 512) (k : Fin 1024) : b4 m c t (ix2 a k)
    = a4 m c (ix2 ⟨512 * min t.val 15 + a.val, by omega⟩ ⟨3072 + k.val, by omega⟩) := by
  blk_ext [b4, iblk, V, idx t]

theorem read5 (c : Dev nD) (t : Fin cfg0.N) (a : Fin 512) (k : Fin 1024) : b5 m c t (ix2 a k)
    = a4 m c (ix2 ⟨512 * min t.val 15 + a.val, by omega⟩ ⟨4096 + k.val, by omega⟩) := by
  blk_ext [b5, iblk, V, idx t]

theorem read6 (c : Dev nD) (t : Fin cfg0.N) (a : Fin 512) (k : Fin 1024) : b6 m c t (ix2 a k)
    = a5 m c (ix2 ⟨512 * (t.val - 16) + a.val, by have := lt18 t; omega⟩ ⟨3072 + k.val, by omega⟩) := by
  blk_ext [b6, iblk, V, idx t]

theorem read7 (c : Dev nD) (t : Fin cfg0.N) (a : Fin 512) (k : Fin 1024) : b7 m c t (ix2 a k)
    = a5 m c (ix2 ⟨512 * (t.val - 16) + a.val, by have := lt18 t; omega⟩ ⟨4096 + k.val, by omega⟩) := by
  blk_ext [b7, iblk, V, idx t]

theorem read8 (c : Dev nD) (t : Fin cfg0.N) (k : Fin 1024) : b8 m c t (ix2 0 k)
    = a6 m c (ix2 0 k) := by
  blk_simp [b8, iblk, idx t]
  entry_read
  pointwise
  blk_ext [idx t]

theorem read9 (c : Dev nD) (t : Fin cfg0.N) (k : Fin 1024) : b9 m c t (ix2 0 k)
    = a7 m c (ix2 0 k) := by
  blk_simp [b9, iblk, idx t]
  entry_read
  pointwise
  blk_ext [idx t]

theorem read10 (c : Dev nD) (t : Fin cfg0.N) (g : Fin 8) (a : Fin 128) (s : Fin 128) : b10 m c t (ix3 g a s)
    = a8 m c (ix4 0 g a s) := by
  blk_simp [b10, iblk, idx t]
  entry_read
  pointwise
  blk_ext [idx t]

theorem read11 (c : Dev nD) (t : Fin cfg0.N) (a : Fin 128) (k : Fin 1024) : b11 m c t (ix2 a k)
    = a9 m c (ix3 0 ⟨k.val / 128, by omega⟩ a) := by
  blk_simp [b11, iblk, idx t]
  entry_read
  pointwise
  blk_ext [idx t]

theorem read12 (c : Dev nD) (t : Fin cfg0.N) (g : Fin 8) (a : Fin 128) (s : Fin 128) : b12 m c t (ix3 g a s)
    = a8 m c (ix4 0 g ⟨a.val % 8, by omega⟩ ⟨s.val % 8, by omega⟩) := by
  blk_simp [b12, iblk, idx t]
  entry_read
  pointwise
  blk_ext [idx t]

theorem read13 (c : Dev nD) (t : Fin cfg0.N) (a : Fin 128) (k : Fin 1024) : b13 m c t (ix2 a k)
    = a9 m c (ix3 0 ⟨k.val / 128, by omega⟩ ⟨a.val % 8, by omega⟩) := by
  blk_simp [b13, iblk, idx t]
  entry_read
  pointwise
  blk_ext [idx t]

theorem read14 (c : Dev nD) (t : Fin cfg0.N) (k : Fin 1024) : b14 m c t (ix2 0 k)
    = a10 m c (ix2 0 k) := by
  blk_simp [b14, iblk, idx t]
  entry_read
  pointwise
  blk_ext [idx t]

theorem read15 (c : Dev nD) (t : Fin cfg0.N) (a : Fin 1024) (k : Fin 2048) : b15 m c t (ix2 a k)
    = a11 m c (ix3 0 ⟨a.val, by omega⟩ k) := by
  blk_simp [b15, iblk, idx t]
  entry_read
  pointwise
  blk_ext [idx t]

theorem read16 (c : Dev nD) (t : Fin cfg0.N) (a : Fin 1024) (k : Fin 2048) : b16 m c t (ix2 a k)
    = a11 m c (ix3 0 ⟨1024 + a.val, by omega⟩ k) := by
  blk_simp [b16, iblk, idx t]
  entry_read
  pointwise
  blk_ext [idx t]

end Cert.Kernel4Ideal.Mix

end
-- ==== Proof.Mix.Mask.lean ====
/- The two masks of the mixing weights, decided entry by entry. -/
module

public import proofs.«01_k».proof.Proof.Gen.Kernel4Ideal.Skeleton
public import Idealize.ShloMosaic.Lib.Pointwise

@[expose] public section

set_option maxRecDepth 16384

noncomputable section

namespace Cert.Kernel4Ideal.Mix

open Cert.Kernel4Ideal Cert.Kernel4Ideal.Gen Idealize.ShloMosaic

/-- The prompt's mask keeps the entries on and below the diagonal. -/
theorem maskA : ∀ a s : Fin 128, k0_pay3 (ix2 a s) = if s.val ≤ a.val then 1#1 else 0#1 := by decide +kernel

/-- The sample's mask keeps those of them that lie in the diagonal's blocks of eight. -/
theorem maskB : ∀ a s : Fin 128, k0_pay42 (ix2 a s) = if s.val / 8 = a.val / 8 ∧ s.val ≤ a.val then 1#1 else 0#1 := by decide +kernel

end Cert.Kernel4Ideal.Mix

end
-- ==== Proof.Mix.RefDefs.lean ====
/- The mixing reference, in stages, read at an index. -/
module

public import proofs.«01_k».proof.Proof.Gen.Reference4Ideal.Run
public import proofs.«01_k».proof.Proof.Mix.Row
public import Idealize.ShloMosaic.Lib.Pointwise

@[expose] public section

set_option maxRecDepth 16384

noncomputable section

namespace Cert.Reference4Ideal.Mix

open Cert.Reference4Ideal Cert.Reference4Ideal.Gen Idealize.ShloMosaic Idealize.ShloMosaic.TcCoe Idealize.SL.Sem
open Cert.Reference4Ideal.Value
open Cert.Mix (gelu mean rinv scaled lnorm)

/-! The prompt's rows. -/

/-- `gelu` of every number. -/
def geluP (X : FVec Ideal S4x2048x1024 .f32) : FVec Ideal S4x2048x1024 .f32 :=
  mulf X (mulf (broadcastInDim S4x2048x1024 ![] bcast_S_S4x2048x1024 (constant S_ .f32 0x3F000000#32)) (addf (broadcastInDim S4x2048x1024 ![] bcast_S_S4x2048x1024 (constant S_ .f32 0x3F800000#32)) (Host.tanh (mulf (broadcastInDim S4x2048x1024 ![] bcast_S_S4x2048x1024 (constant S_ .f32 0x3F4C422A#32)) (addf X (mulf (broadcastInDim S4x2048x1024 ![] bcast_S_S4x2048x1024 (constant S_ .f32 0x3D372713#32)) (mulf (mulf X X) X)))))))

/-- The two parts of `z` the call reads. -/
def uP (Z : FVec Ideal S8192x5120 .bf16) : FVec Ideal S4x2048x1024 .f32 :=
  extractStridedSlice S4x2048x1024 ![0, 0, 3072] (shapeCast S4x2048x5120 (extf .f32 Z bitsLt_bf16_f32) shapeCasts_S8192x5120_S4x2048x5120) slices_S4x2048x5120_S4x2048x1024_0_0_3072
def gP (Z : FVec Ideal S8192x5120 .bf16) : FVec Ideal S4x2048x1024 .f32 :=
  extractStridedSlice S4x2048x1024 ![0, 0, 4096] (shapeCast S4x2048x5120 (extf .f32 Z bitsLt_bf16_f32) shapeCasts_S8192x5120_S4x2048x5120) slices_S4x2048x5120_S4x2048x1024_0_0_4096

/-- Every row less its mean. -/
def centreP (X : FVec Ideal S4x2048x1024 .f32) : FVec Ideal S4x2048x1024 .f32 :=
  subf X (broadcastInDim S4x2048x1024 ![0, 1, 2] bcast_S4x2048x1_S4x2048x1024_0_1_2 (Host.divf (broadcastInDim S4x2048x1 ![0, 1] bcast_S4x2048_S4x2048x1_0_1 (Host.reduceAdd X (constant S_ .f32 0x00000000#32) reducesTo_S4x2048x1024_S4x2048_d2 h_S_)) (broadcastInDim S4x2048x1 ![] bcast_S_S4x2048x1 (constant S_ .f32 0x44800000#32))))

/-- Every row normalised and scaled by `G`. -/
def normP (X : FVec Ideal S4x2048x1024 .f32) (G : FVec Ideal S1024 .f32) : FVec Ideal S4x2048x1024 .f32 :=
  mulf (mulf X (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf X X) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 G))

/-- The normalised gate. -/
def vnP (Z : FVec Ideal S8192x5120 .bf16) (G B : FVec Ideal S1x1024 .f32) : FVec Ideal S4x2048x1024 .f32 :=
  addf (normP (centreP (geluP (gP Z))) (shapeCast S1024 G shapeCasts_S1x1024_S1024)) (broadcastInDim S4x2048x1024 ![0, 1, 2] bcast_S1x1x1024_S4x2048x1024_0_1_2 (broadcastInDim S1x1x1024 ![2] bcast_S1024_S1x1x1024_2 (shapeCast S1024 B shapeCasts_S1x1024_S1024)))

/-- The mixing weights, zero above the diagonal. -/
def triP (W : FVec Ideal S1x8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast S8x128x128 W shapeCasts_S1x8x128x128_S8x128x128) (broadcastInDim S8x128x128 ![] bcast_S_S8x128x128 (id (constant S_ .f32 0x00000000#32)))

/-- The mixing bias, for every row. -/
def biasP (Bs : FVec Ideal S1x8x128 .f32) : FVec Ideal S4x16x128x8x128 .f32 :=
  broadcastInDim S4x16x128x8x128 ![0, 1, 2, 3, 4] bcast_S1x1x128x8x1_S4x16x128x8x128_0_1_2_3_4 (broadcastInDim S1x1x128x8x1 ![2, 3] bcast_S128x8_S1x1x128x8x1_2_3 (transpose S128x8 [1, 0] (shapeCast S8x128 Bs shapeCasts_S1x8x128_S8x128) transposes_S8x128_S128x8_1_0))

/-- The rows mixed in their chunks, group by group. -/
def dotP (X : FVec Ideal S4x2048x1024 .f32) (W : FVec Ideal S1x8x128x128 .f32) : FVec Ideal S4x16x128x8x128 .f32 :=
  transpose S4x16x128x8x128 [1, 2, 4, 0, 3] (Host.dotGeneral dot_S4x16x128x8x128_S8x128x128_S8x4x16x128x128_2_2_014_1_3_0 none (shapeCast S4x16x128x8x128 (shapeCast S4x2048x8x128 X shapeCasts_S4x2048x1024_S4x2048x8x128) shapeCasts_S4x2048x8x128_S4x16x128x8x128) (triP W)) transposes_S8x4x16x128x128_S4x16x128x8x128_1_2_4_0_3

/-- The mixed rows with the bias. -/
def mixedP (X : FVec Ideal S4x2048x1024 .f32) (W : FVec Ideal S1x8x128x128 .f32) (Bs : FVec Ideal S1x8x128 .f32) : FVec Ideal S4x2048x8x128 .f32 :=
  shapeCast S4x2048x8x128 (addf (dotP X W) (biasP Bs)) shapeCasts_S4x16x128x8x128_S4x2048x8x128

/-- The gated rows. -/
def gatedP (Z : FVec Ideal S8192x5120 .bf16) (X : FVec Ideal S4x2048x1024 .f32) (W : FVec Ideal S1x8x128x128 .f32) (Bs : FVec Ideal S1x8x128 .f32) : FVec Ideal S4x2048x1024 .f32 :=
  shapeCast S4x2048x1024 (mulf (shapeCast S4x2048x8x128 (geluP (uP Z)) shapeCasts_S4x2048x1024_S4x2048x8x128) (mixedP X W Bs)) shapeCasts_S4x2048x8x128_S4x2048x1024

/-- The rows after the output product. -/
def outP (H : FVec Ideal S4x2048x2048 .f32) (O : FVec Ideal S8192x1024 .bf16) (M : FVec Ideal S4x2048x1024 .f32) (Go : FVec Ideal S1x1024 .f32) (Wo : FVec Ideal S1x2048x2048 .f32) : FVec Ideal S8192x2048 .f32 :=
  shapeCast S8192x2048 (addf H (Host.dotGeneral dot_S4x2048x2048_S2048x2048_S4x2048x2048_2_0_01_1_n_n none (concatenate S4x2048x2048 2 [⟨S4x2048x1024, (shapeCast S4x2048x1024 (extf .f32 O bitsLt_bf16_f32) shapeCasts_S8192x1024_S4x2048x1024)⟩, ⟨S4x2048x1024, (normP M (shapeCast S1024 Go shapeCasts_S1x1024_S1024))⟩] concatenates_S4x2048x1024_S4x2048x1024_S4x2048x2048_d2) (shapeCast S2048x2048 Wo shapeCasts_S1x2048x2048_S2048x2048))) shapeCasts_S4x2048x2048_S8192x2048

/-! The sample's rows. -/

/-- `gelu` of every number. -/
def geluS (X : FVec Ideal S128x8x1024 .f32) : FVec Ideal S128x8x1024 .f32 :=
  mulf X (mulf (broadcastInDim S128x8x1024 ![] bcast_S_S128x8x1024 (constant S_ .f32 0x3F000000#32)) (addf (broadcastInDim S128x8x1024 ![] bcast_S_S128x8x1024 (constant S_ .f32 0x3F800000#32)) (Host.tanh (mulf (broadcastInDim S128x8x1024 ![] bcast_S_S128x8x1024 (constant S_ .f32 0x3F4C422A#32)) (addf X (mulf (broadcastInDim S128x8x1024 ![] bcast_S_S128x8x1024 (constant S_ .f32 0x3D372713#32)) (mulf (mulf X X) X)))))))

/-- The two parts of `z` the call reads. -/
def uS (Z : FVec Ideal S1024x5120 .bf16) : FVec Ideal S128x8x1024 .f32 :=
  extractStridedSlice S128x8x1024 ![0, 0, 3072] (shapeCast S128x8x5120 (extf .f32 Z bitsLt_bf16_f32) shapeCasts_S1024x5120_S128x8x5120) slices_S128x8x5120_S128x8x1024_0_0_3072
def gS (Z : FVec Ideal S1024x5120 .bf16) : FVec Ideal S128x8x1024 .f32 :=
  extractStridedSlice S128x8x1024 ![0, 0, 4096] (shapeCast S128x8x5120 (extf .f32 Z bitsLt_bf16_f32) shapeCasts_S1024x5120_S128x8x5120) slices_S128x8x5120_S128x8x1024_0_0_4096

/-- Every row less its mean. -/
def centreS (X : FVec Ideal S128x8x1024 .f32) : FVec Ideal S128x8x1024 .f32 :=
  subf X (broadcastInDim S128x8x1024 ![0, 1, 2] bcast_S128x8x1_S128x8x1024_0_1_2 (Host.divf (broadcastInDim S128x8x1 ![0, 1] bcast_S128x8_S128x8x1_0_1 (Host.reduceAdd X (constant S_ .f32 0x00000000#32) reducesTo_S128x8x1024_S128x8_d2 h_S_)) (broadcastInDim S128x8x1 ![] bcast_S_S128x8x1 (constant S_ .f32 0x44800000#32))))

/-- Every row normalised and scaled by `G`. -/
def normS (X : FVec Ideal S128x8x1024 .f32) (G : FVec Ideal S1024 .f32) : FVec Ideal S128x8x1024 .f32 :=
  mulf (mulf X (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf X X) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 G))

/-- The normalised gate. -/
def vnS (Z : FVec Ideal S1024x5120 .bf16) (G B : FVec Ideal S1x1024 .f32) : FVec Ideal S128x8x1024 .f32 :=
  addf (normS (centreS (geluS (gS Z))) (shapeCast S1024 G shapeCasts_S1x1024_S1024)) (broadcastInDim S128x8x1024 ![0, 1, 2] bcast_S1x1x1024_S128x8x1024_0_1_2 (broadcastInDim S1x1x1024 ![2] bcast_S1024_S1x1x1024_2 (shapeCast S1024 B shapeCasts_S1x1024_S1024)))

/-- The mixing weights, zero above the diagonal. -/
def triS (W : FVec Ideal S1x8x128x128 .f32) : FVec Ideal S8x8x8 .f32 :=
  select (broadcastInDim S8x8x8 ![0, 1, 2] bcast_S1x8x8_S8x8x8_0_1_2 (broadcastInDim S1x8x8 ![1, 2] bcast_S8x8_S1x8x8_1_2 (select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1))))) (extractStridedSlice S8x8x8 ![0, 0, 0] (shapeCast S8x128x128 W shapeCasts_S1x8x128x128_S8x128x128) slices_S8x128x128_S8x8x8_0_0_0) (broadcastInDim S8x8x8 ![] bcast_S_S8x8x8 (id (constant S_ .f32 0x00000000#32)))

/-- The mixing bias, for every row. -/
def biasS (Bs : FVec Ideal S1x8x128 .f32) : FVec Ideal S128x1x8x8x128 .f32 :=
  broadcastInDim S128x1x8x8x128 ![0, 1, 2, 3, 4] bcast_S1x1x8x8x1_S128x1x8x8x128_0_1_2_3_4 (broadcastInDim S1x1x8x8x1 ![2, 3] bcast_S8x8_S1x1x8x8x1_2_3 (transpose S8x8 [1, 0] (extractStridedSlice S8x8 ![0, 0] (shapeCast S8x128 Bs shapeCasts_S1x8x128_S8x128) slices_S8x128_S8x8_0_0) transposes_S8x8_S8x8_1_0))

/-- The rows mixed in their chunks, group by group. -/
def dotS (X : FVec Ideal S128x8x1024 .f32) (W : FVec Ideal S1x8x128x128 .f32) : FVec Ideal S128x1x8x8x128 .f32 :=
  transpose S128x1x8x8x128 [1, 2, 4, 0, 3] (Host.dotGeneral dot_S128x1x8x8x128_S8x8x8_S8x128x1x128x8_2_2_014_1_3_0 none (shapeCast S128x1x8x8x128 (shapeCast S128x8x8x128 X shapeCasts_S128x8x1024_S128x8x8x128) shapeCasts_S128x8x8x128_S128x1x8x8x128) (triS W)) transposes_S8x128x1x128x8_S128x1x8x8x128_1_2_4_0_3

/-- The mixed rows with the bias. -/
def mixedS (X : FVec Ideal S128x8x1024 .f32) (W : FVec Ideal S1x8x128x128 .f32) (Bs : FVec Ideal S1x8x128 .f32) : FVec Ideal S128x8x8x128 .f32 :=
  shapeCast S128x8x8x128 (addf (dotS X W) (biasS Bs)) shapeCasts_S128x1x8x8x128_S128x8x8x128

/-- The gated rows. -/
def gatedS (Z : FVec Ideal S1024x5120 .bf16) (X : FVec Ideal S128x8x1024 .f32) (W : FVec Ideal S1x8x128x128 .f32) (Bs : FVec Ideal S1x8x128 .f32) : FVec Ideal S128x8x1024 .f32 :=
  shapeCast S128x8x1024 (mulf (shapeCast S128x8x8x128 (geluS (uS Z)) shapeCasts_S128x8x1024_S128x8x8x128) (mixedS X W Bs)) shapeCasts_S128x8x8x128_S128x8x1024

/-- The rows after the output product. -/
def outS (H : FVec Ideal S128x8x2048 .f32) (O : FVec Ideal S1024x1024 .bf16) (M : FVec Ideal S128x8x1024 .f32) (Go : FVec Ideal S1x1024 .f32) (Wo : FVec Ideal S1x2048x2048 .f32) : FVec Ideal S1024x2048 .f32 :=
  shapeCast S1024x2048 (addf H (Host.dotGeneral dot_S128x8x2048_S2048x2048_S128x8x2048_2_0_01_1_n_n none (concatenate S128x8x2048 2 [⟨S128x8x1024, (shapeCast S128x8x1024 (extf .f32 O bitsLt_bf16_f32) shapeCasts_S1024x1024_S128x8x1024)⟩, ⟨S128x8x1024, (normS M (shapeCast S1024 Go shapeCasts_S1x1024_S1024))⟩] concatenates_S128x8x1024_S128x8x1024_S128x8x2048_d2) (shapeCast S2048x2048 Wo shapeCasts_S1x2048x2048_S2048x2048))) shapeCasts_S128x8x2048_S1024x2048

/-- The first result. -/
def resH (Hp : FVec Ideal S4x2048x2048 .f32) (Hs : FVec Ideal S128x8x2048 .f32) (Op : FVec Ideal S8192x1024 .bf16) (Os : FVec Ideal S1024x1024 .bf16)
    (Zp : FVec Ideal S8192x5120 .bf16) (Zs : FVec Ideal S1024x5120 .bf16) (G B : FVec Ideal S1x1024 .f32) (W : FVec Ideal S1x8x128x128 .f32)
    (Bs : FVec Ideal S1x8x128 .f32) (Go : FVec Ideal S1x1024 .f32) (Wo : FVec Ideal S1x2048x2048 .f32) : FVec Ideal S9216x2048 .f32 :=
  concatenate S9216x2048 0 [⟨S8192x2048, outP Hp Op (gatedP Zp (vnP Zp G B) W Bs) Go Wo⟩, ⟨S1024x2048, outS Hs Os (gatedS Zs (vnS Zs G B) W Bs) Go Wo⟩] concatenates_S8192x2048_S1024x2048_S9216x2048_d0

/-- The second result. -/
def resV (Zs : FVec Ideal S1024x5120 .bf16) (G B : FVec Ideal S1x1024 .f32) : FVec Ideal S1024x1024 .f32 :=
  shapeCast S1024x1024 (vnS Zs G B) shapeCasts_S128x8x1024_S1024x1024

section Res
variable (V0 : Valuation τ sig (Elt Ideal))

/-- The reference's first result is `resH` of its arguments. -/
theorem resH_eq : concatenate S9216x2048 0 [⟨S8192x2048, (shapeCast _ (addf (V0 (Proc.devRef .tc main_arg0)) (Host.dotGeneral (φ₂ := .f32) dot_S4x2048x2048_S2048x2048_S4x2048x2048_2_0_01_1_n_n none (concatenate S4x2048x2048 2 [⟨S4x2048x1024, (shapeCast _ (extf .f32 (V0 (Proc.devRef .tc main_arg2)) bitsLt_bf16_f32) shapeCasts_S8192x1024_S4x2048x1024)⟩, ⟨S4x2048x1024, (mulf (mulf (res_main_v73 V0) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (res_main_v73 V0) (res_main_v73 V0)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (res_main_v4 V0))))⟩] concatenates_S4x2048x1024_S4x2048x1024_S4x2048x2048_d2) (res_main_v5 V0))) shapeCasts_S4x2048x2048_S8192x2048)⟩, ⟨S1024x2048, (shapeCast _ (addf (V0 (Proc.devRef .tc main_arg1)) (Host.dotGeneral (φ₂ := .f32) dot_S128x8x2048_S2048x2048_S128x8x2048_2_0_01_1_n_n none (concatenate S128x8x2048 2 [⟨S128x8x1024, (shapeCast _ (extf .f32 (V0 (Proc.devRef .tc main_arg3)) bitsLt_bf16_f32) shapeCasts_S1024x1024_S128x8x1024)⟩, ⟨S128x8x1024, (mulf (mulf (res_main_v163 V0) (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf (res_main_v163 V0) (res_main_v163 V0)) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 (res_main_v4 V0))))⟩] concatenates_S128x8x1024_S128x8x1024_S128x8x2048_d2) (res_main_v5 V0))) shapeCasts_S128x8x2048_S1024x2048)⟩] concatenates_S8192x2048_S1024x2048_S9216x2048_d0
    = resH (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := rfl

/-- The reference's second result is `resV` of its arguments. -/
theorem resV_eq : shapeCast S1024x1024 (res_main_v145 V0) shapeCasts_S128x8x1024_S1024x1024
    = resV (V0 (Proc.devRef .tc main_arg5)) (V0 (Proc.devRef .tc main_arg6)) (V0 (Proc.devRef .tc main_arg7)) := rfl

end Res

end Cert.Reference4Ideal.Mix

end
-- ==== Proof.Mix.RefA.lean ====
/- The mixing reference, in stages, read at an index. -/
module

public import proofs.«01_k».proof.Proof.Mix.RefDefs
public import proofs.«01_k».proof.Proof.Mix.Row
public import Idealize.ShloMosaic.Lib.Pointwise

@[expose] public section

set_option maxRecDepth 16384

noncomputable section

namespace Cert.Reference4Ideal.Mix

open Cert.Reference4Ideal Cert.Reference4Ideal.Gen Idealize.ShloMosaic Idealize.ShloMosaic.TcCoe Idealize.SL.Sem
open Cert.Reference4Ideal.Value
open Cert.Mix (gelu mean rinv scaled lnorm)

theorem geluP_at (X : FVec Ideal S4x2048x1024 .f32) (i : Fin 4) (j : Fin 2048) (k : Fin 1024) :
    geluP X (ix3 i j k) = gelu (X (ix3 i j k)) := by
  pointwise [geluP, gelu, mul_assoc]

theorem uP_at (Z : FVec Ideal S8192x5120 .bf16) (i : Fin 4) (j : Fin 2048) (k : Fin 1024) :
    uP Z (ix3 i j k) = Z (ix2 ⟨i.val * 2048 + j.val, by omega⟩ ⟨3072 + k.val, by omega⟩) := by
  pointwise [uP]

theorem gP_at (Z : FVec Ideal S8192x5120 .bf16) (i : Fin 4) (j : Fin 2048) (k : Fin 1024) :
    gP Z (ix3 i j k) = Z (ix2 ⟨i.val * 2048 + j.val, by omega⟩ ⟨4096 + k.val, by omega⟩) := by
  pointwise [gP]

theorem centreP_at (X : FVec Ideal S4x2048x1024 .f32) (i : Fin 4) (j : Fin 2048) (k : Fin 1024) :
    centreP X (ix3 i j k) = X (ix3 i j k) - mean fun l => X (ix3 i j l) := by
  pointwise [centreP, mean]

theorem normP_at (X : FVec Ideal S4x2048x1024 .f32) (G : FVec Ideal S1024 .f32) (i : Fin 4) (j : Fin 2048) (k : Fin 1024) :
    normP X G (ix3 i j k) = scaled (fun l => X (ix3 i j l)) (fun l => G (ix1 l)) k := by
  pointwise [normP, scaled, rinv, mean]

theorem vnP_at (Z : FVec Ideal S8192x5120 .bf16) (G B : FVec Ideal S1x1024 .f32) (i : Fin 4) (j : Fin 2048) (k : Fin 1024) :
    vnP Z G B (ix3 i j k) = lnorm (fun l => gelu (Z (ix2 ⟨i.val * 2048 + j.val, by omega⟩ ⟨4096 + l.val, by omega⟩))) (fun l => G (ix2 0 l)) (fun l => B (ix2 0 l)) k := by
  pointwise [vnP, normP_at, centreP_at, geluP_at, gP_at, lnorm]

/-- The triangle's mask. -/
theorem maskP : ∀ a s : Fin 128, (Scalar.select (IntOp.cmpi CmpIPredicate.sge (IntOp.addi (BitVec.ofNat 32 a.val) 0#32) (BitVec.ofNat 32 s.val)) 1#1 0#1 : BitVec 1)
    = if s.val ≤ a.val then 1#1 else 0#1 := by decide +kernel

theorem triP_at (W : FVec Ideal S1x8x128x128 .f32) (g : Fin 8) (a s : Fin 128) :
    triP W (ix3 g a s) = if s.val ≤ a.val then W (ix4 0 g a s) else 0 := by
  pointwise [triP]
  have e : id (constant (F := Ideal) S_ FTy.f32 0x00000000#32) ix0 = 0 := by
    show constant (F := Ideal) S_ FTy.f32 0x00000000#32 ix0 = 0
    pointwise
  rw [e]
  have hc : (Scalar.select (IntOp.cmpi CmpIPredicate.sge (IntOp.addi (BitVec.ofNat 32 a.val) 0#32) (BitVec.ofNat 32 s.val)) 1#1 0#1 : BitVec 1)
      = if s.val ≤ a.val then 1#1 else 0#1 := maskP a s
  rw [hc]
  split <;> rfl

theorem biasP_at (Bs : FVec Ideal S1x8x128 .f32) (i : Fin 4) (e : Fin 16) (a : Fin 128) (g : Fin 8) (k : Fin 128) :
    biasP Bs (ix5 i e a g k) = Bs (ix3 0 g a) := by
  pointwise [biasP]

theorem dotP_at (X : FVec Ideal S4x2048x1024 .f32) (W : FVec Ideal S1x8x128x128 .f32) (i : Fin 4) (e : Fin 16) (a : Fin 128) (g : Fin 8) (k : Fin 128) :
    dotP X W (ix5 i e a g k) = ∑ s : Fin 128, triP W (ix3 g a s) * X (ix3 i ⟨e.val * 128 + s.val, by omega⟩ ⟨g.val * 128 + k.val, by omega⟩) := by
  pointwise [dotP]
  exact Finset.sum_congr rfl fun s _ => mul_comm _ _

theorem gatedP_at (Z : FVec Ideal S8192x5120 .bf16) (X : FVec Ideal S4x2048x1024 .f32) (W : FVec Ideal S1x8x128x128 .f32) (Bs : FVec Ideal S1x8x128 .f32)
    (i : Fin 4) (j : Fin 2048) (k : Fin 1024) :
    gatedP Z X W Bs (ix3 i j k) = gelu (Z (ix2 ⟨i.val * 2048 + j.val, by omega⟩ ⟨3072 + k.val, by omega⟩))
      * ((∑ s : Fin 128, (if s.val ≤ j.val % 128 then W (ix4 0 ⟨k.val / 128, by omega⟩ ⟨j.val % 128, by omega⟩ s) else 0) * X (ix3 i ⟨j.val / 128 * 128 + s.val, by omega⟩ k))
        + Bs (ix3 0 ⟨k.val / 128, by omega⟩ ⟨j.val % 128, by omega⟩)) := by
  have e : (⟨k.val / 128 * 128 + k.val % 128, by omega⟩ : Fin 1024) = k := Fin.ext (by dsimp only; omega)
  pointwise [gatedP, mixedP, geluP_at, uP_at, biasP_at, dotP_at, triP_at]
  simp only [e]

theorem outP_at (H : FVec Ideal S4x2048x2048 .f32) (O : FVec Ideal S8192x1024 .bf16) (M : FVec Ideal S4x2048x1024 .f32) (Go : FVec Ideal S1x1024 .f32) (Wo : FVec Ideal S1x2048x2048 .f32)
    (r : Fin 8192) (b : Fin 2048) :
    outP H O M Go Wo (ix2 r b) = H (ix3 ⟨r.val / 2048, by omega⟩ ⟨r.val % 2048, by omega⟩ b)
      + ((∑ k : Fin 1024, O (ix2 r k) * Wo (ix3 0 ⟨k.val, by omega⟩ b))
        + ∑ k : Fin 1024, scaled (fun l => M (ix3 ⟨r.val / 2048, by omega⟩ ⟨r.val % 2048, by omega⟩ l)) (fun l => Go (ix2 0 l)) k * Wo (ix3 0 ⟨1024 + k.val, by omega⟩ b)) := by
  pointwise [outP, normP_at]

theorem geluS_at (X : FVec Ideal S128x8x1024 .f32) (i : Fin 128) (j : Fin 8) (k : Fin 1024) :
    geluS X (ix3 i j k) = gelu (X (ix3 i j k)) := by
  pointwise [geluS, gelu, mul_assoc]

theorem uS_at (Z : FVec Ideal S1024x5120 .bf16) (i : Fin 128) (j : Fin 8) (k : Fin 1024) :
    uS Z (ix3 i j k) = Z (ix2 ⟨i.val * 8 + j.val, by omega⟩ ⟨3072 + k.val, by omega⟩) := by
  pointwise [uS]

theorem gS_at (Z : FVec Ideal S1024x5120 .bf16) (i : Fin 128) (j : Fin 8) (k : Fin 1024) :
    gS Z (ix3 i j k) = Z (ix2 ⟨i.val * 8 + j.val, by omega⟩ ⟨4096 + k.val, by omega⟩) := by
  pointwise [gS]

theorem centreS_at (X : FVec Ideal S128x8x1024 .f32) (i : Fin 128) (j : Fin 8) (k : Fin 1024) :
    centreS X (ix3 i j k) = X (ix3 i j k) - mean fun l => X (ix3 i j l) := by
  pointwise [centreS, mean]

theorem normS_at (X : FVec Ideal S128x8x1024 .f32) (G : FVec Ideal S1024 .f32) (i : Fin 128) (j : Fin 8) (k : Fin 1024) :
    normS X G (ix3 i j k) = scaled (fun l => X (ix3 i j l)) (fun l => G (ix1 l)) k := by
  pointwise [normS, scaled, rinv, mean]

theorem vnS_at (Z : FVec Ideal S1024x5120 .bf16) (G B : FVec Ideal S1x1024 .f32) (i : Fin 128) (j : Fin 8) (k : Fin 1024) :
    vnS Z G B (ix3 i j k) = lnorm (fun l => gelu (Z (ix2 ⟨i.val * 8 + j.val, by omega⟩ ⟨4096 + l.val, by omega⟩))) (fun l => G (ix2 0 l)) (fun l => B (ix2 0 l)) k := by
  pointwise [vnS, normS_at, centreS_at, geluS_at, gS_at, lnorm]

/-- The triangle's mask. -/
theorem maskS : ∀ a s : Fin 8, (Scalar.select (IntOp.cmpi CmpIPredicate.sge (IntOp.addi (BitVec.ofNat 32 a.val) 0#32) (BitVec.ofNat 32 s.val)) 1#1 0#1 : BitVec 1)
    = if s.val ≤ a.val then 1#1 else 0#1 := by decide +kernel

theorem triS_at (W : FVec Ideal S1x8x128x128 .f32) (g : Fin 8) (a s : Fin 8) :
    triS W (ix3 g a s) = if s.val ≤ a.val then W (ix4 0 g ⟨a.val, by omega⟩ ⟨s.val, by omega⟩) else 0 := by
  pointwise [triS]
  have e : id (constant (F := Ideal) S_ FTy.f32 0x00000000#32) ix0 = 0 := by
    show constant (F := Ideal) S_ FTy.f32 0x00000000#32 ix0 = 0
    pointwise
  rw [e]
  have hc : (Scalar.select (IntOp.cmpi CmpIPredicate.sge (IntOp.addi (BitVec.ofNat 32 a.val) 0#32) (BitVec.ofNat 32 s.val)) 1#1 0#1 : BitVec 1)
      = if s.val ≤ a.val then 1#1 else 0#1 := maskS a s
  rw [hc]
  split <;> rfl

theorem biasS_at (Bs : FVec Ideal S1x8x128 .f32) (i : Fin 128) (e : Fin 1) (a : Fin 8) (g : Fin 8) (k : Fin 128) :
    biasS Bs (ix5 i e a g k) = Bs (ix3 0 g ⟨a.val, by omega⟩) := by
  pointwise [biasS]

theorem dotS_at (X : FVec Ideal S128x8x1024 .f32) (W : FVec Ideal S1x8x128x128 .f32) (i : Fin 128) (e : Fin 1) (a : Fin 8) (g : Fin 8) (k : Fin 128) :
    dotS X W (ix5 i e a g k) = ∑ s : Fin 8, triS W (ix3 g a s) * X (ix3 i s ⟨g.val * 128 + k.val, by omega⟩) := by
  pointwise [dotS]
  exact Finset.sum_congr rfl fun s _ => mul_comm _ _

theorem gatedS_at (Z : FVec Ideal S1024x5120 .bf16) (X : FVec Ideal S128x8x1024 .f32) (W : FVec Ideal S1x8x128x128 .f32) (Bs : FVec Ideal S1x8x128 .f32)
    (i : Fin 128) (j : Fin 8) (k : Fin 1024) :
    gatedS Z X W Bs (ix3 i j k) = gelu (Z (ix2 ⟨i.val * 8 + j.val, by omega⟩ ⟨3072 + k.val, by omega⟩))
      * ((∑ s : Fin 8, (if s.val ≤ j.val then W (ix4 0 ⟨k.val / 128, by omega⟩ ⟨j.val, by omega⟩ ⟨s.val, by omega⟩) else 0) * X (ix3 i s k))
        + Bs (ix3 0 ⟨k.val / 128, by omega⟩ ⟨j.val, by omega⟩)) := by
  have e : (⟨k.val / 128 * 128 + k.val % 128, by omega⟩ : Fin 1024) = k := Fin.ext (by dsimp only; omega)
  pointwise [gatedS, mixedS, geluS_at, uS_at, biasS_at, dotS_at, triS_at]
  simp only [e]

theorem outS_at (H : FVec Ideal S128x8x2048 .f32) (O : FVec Ideal S1024x1024 .bf16) (M : FVec Ideal S128x8x1024 .f32) (Go : FVec Ideal S1x1024 .f32) (Wo : FVec Ideal S1x2048x2048 .f32)
    (r : Fin 1024) (b : Fin 2048) :
    outS H O M Go Wo (ix2 r b) = H (ix3 ⟨r.val / 8, by omega⟩ ⟨r.val % 8, by omega⟩ b)
      + ((∑ k : Fin 1024, O (ix2 r k) * Wo (ix3 0 ⟨k.val, by omega⟩ b))
        + ∑ k : Fin 1024, scaled (fun l => M (ix3 ⟨r.val / 8, by omega⟩ ⟨r.val % 8, by omega⟩ l)) (fun l => Go (ix2 0 l)) k * Wo (ix3 0 ⟨1024 + k.val, by omega⟩ b)) := by
  pointwise [outS, normS_at]

end Cert.Reference4Ideal.Mix

end
-- ==== Proof.Mix.RefB.lean ====
/- The mixing reference, read at the rows of one block of 512 rows. -/
module

public import proofs.«01_k».proof.Proof.Mix.RefA

@[expose] public section

set_option maxRecDepth 16384

noncomputable section

namespace Cert.Reference4Ideal.Mix

open Cert.Reference4Ideal Cert.Reference4Ideal.Gen Idealize.ShloMosaic Idealize.ShloMosaic.TcCoe Idealize.SL.Sem
open Cert.Mix (gelu mean rinv scaled lnorm)

/-- A sum over 128 places of which only the eight of tile `q` count. -/
theorem sum_tile (q : Fin 16) (f : Fin 128 → EReal) (g : Fin 8 → EReal) (hz : ∀ s : Fin 128, s.val / 8 ≠ q.val → f s = 0)
    (hg : ∀ s : Fin 8, f ⟨8 * q.val + s.val, by omega⟩ = g s) : ∑ s, f s = ∑ s, g s := by
  symm
  refine Finset.sum_of_injOn (fun s : Fin 8 => (⟨8 * q.val + s.val, by omega⟩ : Fin 128)) ?_ ?_ ?_ ?_
  · intro x _ y _ h
    have h' : 8 * q.val + x.val = 8 * q.val + y.val := congrArg Fin.val h
    exact Fin.ext (by omega)
  · exact fun x _ => Finset.mem_coe.mpr (Finset.mem_univ _)
  · intro s _ hs
    refine hz s fun e => hs ⟨⟨s.val % 8, by omega⟩, Finset.mem_coe.mpr (Finset.mem_univ _), Fin.ext ?_⟩
    show 8 * q.val + s.val % 8 = s.val
    omega
  · exact fun s _ => (hg s).symm

section Rows
variable (G B : FVec Ideal S1x1024 .f32) (W : FVec Ideal S1x8x128x128 .f32) (Bs : FVec Ideal S1x8x128 .f32)

/-- The prompt's gated rows, at row `a` of block `T`. -/
theorem rowP (Z : FVec Ideal S8192x5120 .bf16) (T : Fin 16) (a : Fin 512) (k : Fin 1024) :
    gatedP Z (vnP Z G B) W Bs (ix3 ⟨(512 * T.val + a.val) / 2048, by omega⟩ ⟨(512 * T.val + a.val) % 2048, by omega⟩ k)
      = gelu (Z (ix2 ⟨512 * T.val + a.val, by omega⟩ ⟨3072 + k.val, by omega⟩))
        * ((∑ s : Fin 128, (if s.val ≤ a.val % 128 then W (ix4 0 ⟨k.val / 128, by omega⟩ ⟨a.val % 128, by omega⟩ s) else 0)
            * lnorm (fun l => gelu (Z (ix2 ⟨512 * T.val + (a.val / 128 * 128 + s.val), by omega⟩ ⟨4096 + l.val, by omega⟩))) (fun l => G (ix2 0 l)) (fun l => B (ix2 0 l)) k)
          + Bs (ix3 0 ⟨k.val / 128, by omega⟩ ⟨a.val % 128, by omega⟩)) := by
  rw [gatedP_at]
  have n1 : (512 * T.val + a.val) / 2048 * 2048 + (512 * T.val + a.val) % 2048 = 512 * T.val + a.val := by omega
  have n2 : (512 * T.val + a.val) % 2048 % 128 = a.val % 128 := by omega
  have n3 : ∀ s : ℕ, (512 * T.val + a.val) / 2048 * 2048 + ((512 * T.val + a.val) % 2048 / 128 * 128 + s) = 512 * T.val + (a.val / 128 * 128 + s) := fun s => by omega
  simp only [vnP_at, n1, n2, n3]

/-- The sample's gated rows, at row `a` of block `T`, with the sum over the eight rows of a sequence written as a sum over the 128 rows of a chunk. -/
theorem rowS (Z : FVec Ideal S1024x5120 .bf16) (T : Fin 2) (a : Fin 512) (k : Fin 1024) :
    gatedS Z (vnS Z G B) W Bs (ix3 ⟨(512 * T.val + a.val) / 8, by omega⟩ ⟨(512 * T.val + a.val) % 8, by omega⟩ k)
      = gelu (Z (ix2 ⟨512 * T.val + a.val, by omega⟩ ⟨3072 + k.val, by omega⟩))
        * ((∑ s : Fin 128, (if s.val / 8 = a.val % 128 / 8 ∧ s.val ≤ a.val % 128 then W (ix4 0 ⟨k.val / 128, by omega⟩ ⟨a.val % 128 % 8, by omega⟩ ⟨s.val % 8, by omega⟩) else 0)
            * lnorm (fun l => gelu (Z (ix2 ⟨512 * T.val + (a.val / 128 * 128 + s.val), by omega⟩ ⟨4096 + l.val, by omega⟩))) (fun l => G (ix2 0 l)) (fun l => B (ix2 0 l)) k)
          + Bs (ix3 0 ⟨k.val / 128, by omega⟩ ⟨a.val % 128 % 8, by omega⟩)) := by
  rw [gatedS_at]
  have n2 : (512 * T.val + a.val) % 8 = a.val % 128 % 8 := by omega
  rw [sum_tile ⟨a.val % 128 / 8, by omega⟩ (fun s : Fin 128 => (if s.val / 8 = a.val % 128 / 8 ∧ s.val ≤ a.val % 128 then W (ix4 0 ⟨k.val / 128, by omega⟩ ⟨a.val % 128 % 8, by omega⟩ ⟨s.val % 8, by omega⟩) else 0)
            * lnorm (fun l => gelu (Z (ix2 ⟨512 * T.val + (a.val / 128 * 128 + s.val), by omega⟩ ⟨4096 + l.val, by omega⟩))) (fun l => G (ix2 0 l)) (fun l => B (ix2 0 l)) k)
      (fun s : Fin 8 => (if s.val ≤ (512 * T.val + a.val) % 8 then W (ix4 0 ⟨k.val / 128, by omega⟩ ⟨(512 * T.val + a.val) % 8, by omega⟩ ⟨s.val, by omega⟩) else 0)
            * vnS Z G B (ix3 ⟨(512 * T.val + a.val) / 8, by omega⟩ s k)) ?_ ?_]
  · have n3 : (512 * T.val + a.val) / 8 * 8 + a.val % 128 % 8 = 512 * T.val + a.val := by omega
    simp only [n2, n3]
  · intro s hs
    dsimp only at hs ⊢
    rw [if_neg (fun h => hs h.1), zero_mul]
  · intro s
    dsimp only
    have m1 : (8 * (a.val % 128 / 8) + s.val) / 8 = a.val % 128 / 8 := by omega
    have m2 : (8 * (a.val % 128 / 8) + s.val) % 8 = s.val := by omega
    have m3 : 8 * (a.val % 128 / 8) + s.val ≤ a.val % 128 ↔ s.val ≤ a.val % 128 % 8 := by omega
    have m4 : 512 * T.val + (a.val / 128 * 128 + (8 * (a.val % 128 / 8) + s.val)) = (512 * T.val + a.val) / 8 * 8 + s.val := by omega
    simp only [vnS_at, m1, m2, m3, m4, n2, true_and]

end Rows

section Res
variable (Hp : FVec Ideal S4x2048x2048 .f32) (Hs : FVec Ideal S128x8x2048 .f32) (Op : FVec Ideal S8192x1024 .bf16) (Os : FVec Ideal S1024x1024 .bf16)
    (Zp : FVec Ideal S8192x5120 .bf16) (Zs : FVec Ideal S1024x5120 .bf16) (G B : FVec Ideal S1x1024 .f32) (W : FVec Ideal S1x8x128x128 .f32)
    (Bs : FVec Ideal S1x8x128 .f32) (Go : FVec Ideal S1x1024 .f32) (Wo : FVec Ideal S1x2048x2048 .f32)

/-- The first result's upper rows are the prompt's. -/
theorem resH_atP (r : Fin 8192) (b : Fin 2048) : resH Hp Hs Op Os Zp Zs G B W Bs Go Wo (ix2 ⟨r.val, by omega⟩ b)
    = outP Hp Op (gatedP Zp (vnP Zp G B) W Bs) Go Wo (ix2 r b) := by
  pointwise [resH]

/-- The first result's lower rows are the sample's. -/
theorem resH_atS (r : Fin 1024) (b : Fin 2048) : resH Hp Hs Op Os Zp Zs G B W Bs Go Wo (ix2 ⟨8192 + r.val, by omega⟩ b)
    = outS Hs Os (gatedS Zs (vnS Zs G B) W Bs) Go Wo (ix2 r b) := by
  pointwise [resH]

/-- The second result, read at an index. -/
theorem resV_at (r : Fin 1024) (k : Fin 1024) : resV Zs G B (ix2 r k)
    = lnorm (fun l => gelu (Zs (ix2 r ⟨4096 + l.val, by omega⟩))) (fun l => G (ix2 0 l)) (fun l => B (ix2 0 l)) k := by
  have n : r.val / 8 * 8 + r.val % 8 = r.val := by omega
  pointwise [resV, vnS_at]
  simp only [n]

end Res

end Cert.Reference4Ideal.Mix

end
-- ==== Proof.Mix.Value.lean ====
/- The mixing call: the two result arrays after the run are the reference's. -/
module

public import proofs.«01_k».proof.Proof.Mix.Reads
public import proofs.«01_k».proof.Proof.Mix.Mask
public import proofs.«01_k».proof.Proof.Mix.RefB

@[expose] public section

set_option maxRecDepth 16384

noncomputable section

namespace Cert.Kernel4Ideal.Mix

open Cert.Kernel4Ideal Cert.Kernel4Ideal.Gen Idealize.ShloMosaic Idealize.ShloMosaic.TcCoe Idealize.SL.Sem
open Idealize.ShloMosaic.Pipeline (Dat)
open Cert.Mix (gelu mean rinv scaled lnorm)
open Cert.Reference4Ideal.Mix (resH resV resH_atP resH_atS resV_at outP_at outS_at rowP rowS)

variable (m : (ℓ : Loc nD τ sig) → Buf (Elt Ideal) ℓ)

/-- What the reference's two results are, of the kernel's arguments. -/
abbrev REFH (c : Dev nD) : FVec Ideal S9216x2048 .f32 :=
  resH (a0 m c) (a1 m c) (a2 m c) (a3 m c) (a4 m c) (a5 m c) (a6 m c) (a7 m c) (a8 m c) (a9 m c) (a10 m c) (a11 m c)
abbrev REFV (c : Dev nD) : FVec Ideal S1024x1024 .f32 := resV (a5 m c) (a6 m c) (a7 m c)

/-- A prompt point's block is its rows of the reference. -/
theorem blockA (c : Dev nD) (t : Fin cfg0.N) (h : t.val < 16) (a : Fin 512) (b : Fin 2048) :
    block k0_pay3 (b0 m c t) (b2 m c t) (b4 m c t) (b5 m c t) (b8 m c t) (b9 m c t) (b10 m c t) (b11 m c t) (b14 m c t) (b15 m c t) (b16 m c t) (ix2 a b)
      = REFH m c (ix2 ⟨512 * t.val + a.val, by omega⟩ b) := by
  have hp : min t.val 15 = t.val := by omega
  rw [block_at _ _ _ _ _ _ _ _ _ _ _ _ (fun a s : Fin 128 => s.val ≤ a.val) maskA]
  refine Eq.trans ?_ (resH_atP _ _ _ _ _ _ _ _ _ _ _ _ ⟨512 * t.val + a.val, by omega⟩ b).symm
  rw [outP_at, add_assoc]
  have e : ∀ k, mrow (b4 m c t) (b5 m c t) (b8 m c t) (b9 m c t) (b10 m c t) (b11 m c t) (b14 m c t) (fun a s : Fin 128 => s.val ≤ a.val) a k
      = scaled (fun l => Cert.Reference4Ideal.Mix.gatedP (a4 m c) (Cert.Reference4Ideal.Mix.vnP (a4 m c) (a6 m c) (a7 m c)) (a8 m c) (a9 m c)
          (ix3 ⟨(512 * t.val + a.val) / 2048, by omega⟩ ⟨(512 * t.val + a.val) % 2048, by omega⟩ l)) (fun l => a10 m c (ix2 0 l)) k := fun k => by
    unfold mrow
    simp only [read4, read5, read8, read9, read10, read11, read14, hp]
    exact congrArg (fun f => scaled f _ k) (funext fun l => (rowP _ _ _ _ _ ⟨t.val, h⟩ a l).symm)
  simp only [e, read0, read2, read15, read16, hp]

/-- A sample point's block is its rows of the reference. -/
theorem blockB (c : Dev nD) (t : Fin cfg0.N) (h : 16 ≤ t.val) (a : Fin 512) (b : Fin 2048) :
    block k0_pay42 (b1 m c t) (b3 m c t) (b6 m c t) (b7 m c t) (b8 m c t) (b9 m c t) (b12 m c t) (b13 m c t) (b14 m c t) (b15 m c t) (b16 m c t) (ix2 a b)
      = REFH m c (ix2 ⟨512 * t.val + a.val, by have := lt18 t; omega⟩ b) := by
  have h18 := lt18 t
  rw [block_at _ _ _ _ _ _ _ _ _ _ _ _ (fun a s : Fin 128 => s.val / 8 = a.val / 8 ∧ s.val ≤ a.val) maskB]
  have hr : (⟨512 * t.val + a.val, by omega⟩ : Fin 9216) = ⟨8192 + (512 * (t.val - 16) + a.val), by omega⟩ := Fin.ext (by dsimp only; omega)
  rw [hr]
  refine Eq.trans ?_ (resH_atS _ _ _ _ _ _ _ _ _ _ _ _ ⟨512 * (t.val - 16) + a.val, by omega⟩ b).symm
  rw [outS_at, add_assoc]
  have e : ∀ k, mrow (b6 m c t) (b7 m c t) (b8 m c t) (b9 m c t) (b12 m c t) (b13 m c t) (b14 m c t) (fun a s : Fin 128 => s.val / 8 = a.val / 8 ∧ s.val ≤ a.val) a k
      = scaled (fun l => Cert.Reference4Ideal.Mix.gatedS (a5 m c) (Cert.Reference4Ideal.Mix.vnS (a5 m c) (a6 m c) (a7 m c)) (a8 m c) (a9 m c)
          (ix3 ⟨(512 * (t.val - 16) + a.val) / 8, by omega⟩ ⟨(512 * (t.val - 16) + a.val) % 8, by omega⟩ l)) (fun l => a10 m c (ix2 0 l)) k := fun k => by
    unfold mrow
    simp only [read6, read7, read8, read9, read12, read13, read14]
    exact congrArg (fun f => scaled f _ k) (funext fun l => (rowS _ _ _ _ _ ⟨t.val - 16, by omega⟩ a l).symm)
  simp only [e, read1, read3, read15, read16]

/-- The first result's array after the run is the reference's. -/
theorem final17 (c : Dev nD) : (dats m 0 c).arrAt 17 (cfgs 0).N = REFH m c := by
  refine (dats m 0 c).arrAt_eq_of_covers 17 _ (by decide +kernel) fun t hf y => ?_
  blk_simp
  rw [after0_17]
  obtain ⟨y0, y1, rfl⟩ : ∃ (y0 : Fin 512) (y1 : Fin 2048), y = ix2 y0 y1 := ⟨y 0, y 1, by
    funext i; fin_cases i <;> rfl⟩
  have hemb : (win0_17.blk t).view.emb (ix2 y0 y1)
      = (ix2 ⟨512 * t.val + y0.val, by have := lt18 t; omega⟩ y1 : S9216x2048.Idx) := by
    blk_ext [idx t]
  rw [hemb]
  by_cases h : t.val < 16
  · exact (outA m c t h (by omega) _).trans (blockA m c t h y0 y1)
  · exact (outB m c t h (by omega) _).trans (blockB m c t (by omega) y0 y1)

/-- The second result's array after the run is the reference's. -/
theorem final18 (c : Dev nD) : (dats m 0 c).arrAt 18 (cfgs 0).N = REFV m c := by
  refine (dats m 0 c).arrAt_eq_of_covers 18 _ (by decide +kernel) fun t hf y => ?_
  blk_simp
  rw [after0_18]
  have ht : 16 ≤ t.val := (by decide +kernel : ∀ t : Fin cfg0.N, (cfg0.win 18).flush t = true → 16 ≤ t.val) t hf
  have h18 := lt18 t
  obtain ⟨y0, y1, rfl⟩ : ∃ (y0 : Fin 512) (y1 : Fin 1024), y = ix2 y0 y1 := ⟨y 0, y 1, by
    funext i; fin_cases i <;> rfl⟩
  have hemb : (win0_18.blk t).view.emb (ix2 y0 y1)
      = (ix2 ⟨512 * (t.val - 16) + y0.val, by omega⟩ y1 : S1024x1024.Idx) := by
    blk_ext [idx t]
  rw [hemb]
  refine (outV m c t (by omega) ht _).trans ?_
  rw [gate_at]
  refine Eq.trans ?_ (resV_at _ _ _ ⟨512 * (t.val - 16) + y0.val, by omega⟩ y1).symm
  simp only [read7, read8, read9]

end Cert.Kernel4Ideal.Mix

end
-- ==== Proof.Mix.Results.lean ====
/- The mixing call and its reference: what each run leaves in the result arrays. -/
module

public import proofs.«01_k».proof.Proof.Mix.Value

@[expose] public section

set_option maxRecDepth 16384

noncomputable section

namespace Cert.Kernel4Ideal.Mix

open Cert.Kernel4Ideal Cert.Kernel4Ideal.Gen Idealize.ShloMosaic Idealize.ShloMosaic.TcCoe Idealize.SL.Sem

/-- Every run of the mixing kernel ends with the reference's two results of its arguments, which it leaves as they were. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32_0) = REFH m c
      ∧ r.2.mem ((c.tc : Thread nD τ).loc main_v32_1) = REFV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Idealize.ShloMosaic.θ_run_mono (Cert.Kernel4Ideal.Value.run_blocks m ρ) fun r h c =>
    ⟨(h c).1.trans (final17 m c), (h c).2.1.trans (final18 m c), (h c).2.2⟩

end Cert.Kernel4Ideal.Mix

namespace Cert.Reference4Ideal.Mix

open Cert.Reference4Ideal Cert.Reference4Ideal.Gen Idealize.ShloMosaic Idealize.ShloMosaic.TcCoe Idealize.SL.Sem
open Idealize.ShloMosaic.StableHlo

/-- Every run of the mixing reference ends with the two results as they are stated of its arguments, which it leaves as they were. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v184) = resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v183) = resV (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Idealize.ShloMosaic.θ_run_mono (Cert.Reference4Ideal.Value.run m ρ) fun r h c =>
    ⟨(h c).1.trans (resH_eq (launchContents m c)), (h c).2.1.trans (resV_eq (launchContents m c)), (h c).2.2⟩

end Cert.Reference4Ideal.Mix

end
-- ==== Proof.Inproj.Base.lean ====
/- Where the two cases of the body hold and which windows each leaves alone. -/
module

public import proofs.«01_k».proof.Proof.Gen.Kernel5Ideal.Frame
public import proofs.«01_k».proof.Proof.Gen.Kernel5Ideal.Skeleton
public import proofs.«01_k».proof.Proof.Gen.Kernel5Ideal.Points
public import Idealize.ShloMosaic.Lib.Pipeline.TableIdle
public import Idealize.ShloMosaic.Lib.WordCmp
public import Idealize.ShloMosaic.Lib.Ring
public import Idealize.ShloMosaic.Lib.Tactic

@[expose] public section

set_option maxRecDepth 16384

noncomputable section

namespace Cert.Kernel5Ideal.Inproj

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 . -/
abbrev cond0_0 (i : grid0.Coords) : Prop := k0_cond1 i = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 5 % 1 := Pipeline.Grid.coords_val t 0 (by decide) rfl
    have e1 : (grid0.coords t 1).val = t.val / 1 % 5 := Pipeline.Grid.coords_val t 1 (by decide) rfl
    simp only [cond0_0, k0_cond1, e0, e1]
    word_cmp
   : ∀ t : Fin grid0.N, cond0_0 (grid0.coords t) ↔ t.val % 5 = 0)

/-- The condition of the body's `scf.if` 1 . -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Output 4 is stored at every point. -/
theorem liveAt0_4 : ∀ t : Fin cfg0.N, cfg0.idle 4 (grid0.coords t) = false := by decide +kernel
/-- Output 6 is stored at every point. -/
theorem liveAt0_6 : ∀ t : Fin cfg0.N, cfg0.idle 6 (grid0.coords t) = false := by decide +kernel
/-- Output 5 is stored at the first point. -/
theorem liveAt0_5_A : ∀ t : Fin cfg0.N, cond0_0 (grid0.coords t) → ¬cond0_1 (grid0.coords t) → cfg0.idle 5 (grid0.coords t) = false := by decide +kernel
/-- Output 5 is left alone at the later points. -/
theorem idleAt0_5_B : ∀ t : Fin cfg0.N, ¬cond0_0 (grid0.coords t) → cond0_1 (grid0.coords t) → cfg0.idle 5 (grid0.coords t) = true := by decide +kernel
/-- Its buffer holds the first point's block then. -/
theorem fresh0_5_B : ∀ t : Fin cfg0.N, ¬cond0_0 (grid0.coords t) → cond0_1 (grid0.coords t) → cfg0.fresh 5 t.val = false := by decide +kernel
/-- Output 7 is stored at the first point. -/
theorem liveAt0_7_A : ∀ t : Fin cfg0.N, cond0_0 (grid0.coords t) → ¬cond0_1 (grid0.coords t) → cfg0.idle 7 (grid0.coords t) = false := by decide +kernel
/-- Output 7 is left alone at the later points. -/
theorem idleAt0_7_B : ∀ t : Fin cfg0.N, ¬cond0_0 (grid0.coords t) → cond0_1 (grid0.coords t) → cfg0.idle 7 (grid0.coords t) = true := by decide +kernel
/-- Its buffer holds the first point's block then. -/
theorem fresh0_7_B : ∀ t : Fin cfg0.N, ¬cond0_0 (grid0.coords t) → cond0_1 (grid0.coords t) → cfg0.fresh 7 t.val = false := by decide +kernel

/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x2048 .bf16 := win0_7.stage (cfg0.slots t 7)
abbrev hs0_7 (t : Fin cfg0.N) : (ms0_7 t).IsWhole := hstage0_7 ((cfg0.slots t 7).cast nbuf0_7)
/-- The view through which what the body leaves in output 4 is read. -/
abbrev VO0_4 : View sig .tc .vmem S1024x1024 .bf16 := (Memref.whole cc0_stg4_0 : Memref sig .tc .vmem S1024x1024 .bf16).view
/-- The view through which what the body leaves in output 5 is read. -/
abbrev VO0_5 : View sig .tc .vmem S1024x128 .f32 := (Memref.whole cc0_stg5_0 : Memref sig .tc .vmem S1024x128 .f32).view
/-- The view through which what the body leaves in output 6 is read. -/
abbrev VO0_6 : View sig .tc .vmem S1024x2048 .bf16 := (Memref.whole cc0_stg6_0 : Memref sig .tc .vmem S1024x2048 .bf16).view
/-- The view through which what the body leaves in output 7 is read. -/
abbrev VO0_7 : View sig .tc .vmem S128x2048 .bf16 := (Memref.whole cc0_stg7_0 : Memref sig .tc .vmem S128x2048 .bf16).view
/-- The scratch, whole. -/
abbrev scM0_0 : Memref sig .tc .vmem S1024x2048 .bf16 := Memref.whole cc0_scratch0
abbrev scM0_1 : Memref sig .tc .vmem S1024x1 .f32 := Memref.whole cc0_scratch1

/-- The invariant of the region, with the scratch as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel5Ideal.Inproj

end
-- ==== Proof.Inproj.RunA.lean ====
/- The run of the body at the first point. -/
module

public import proofs.«01_k».proof.Proof.Inproj.Base

@[expose] public section

set_option maxRecDepth 16384

noncomputable section

namespace Cert.Kernel5Ideal.Inproj

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores, as pieces, in this case: on whole buffers, the inputs' at their contents, it runs
    and leaves the inputs' as they were, the pieces in every output and in the scratch. -/
noncomputable def runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S128x2048 .f32) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S128x2048 .bf16) (harg9 : arg9.IsWhole) (arg10 : Memref sig .tc .vmem S1024x2048 .bf16) (harg10 : arg10.IsWhole) (arg11 : Memref sig .tc .vmem S1024x1 .f32) (harg11 : arg11.IsWhole) (hc0 : cond0_0 i) (hc1 : ¬cond0_1 i)
    (x0 : Vec F S1024x2048 .f32) (x1 : Vec F S1x2048 .f32) (x2 : Vec F S1024x2048 .f32) (x3 : Vec F S128x2048 .f32) :
    Σ' (L4 : List (View.Piece (Elt F) S1024x1024 .bf16)), Σ' (L5 : List (View.Piece (Elt F) S1024x128 .f32)), Σ' (L6 : List (View.Piece (Elt F) S1024x2048 .bf16)), Σ' (L7 : List (View.Piece (Elt F) S128x2048 .bf16)), Σ' (LS0 : List (View.Piece (Elt F) S1024x2048 .bf16)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0_inproj_eq_skeleton]; unfold cc0_inproj_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    iexists _; iexact HS1

end Cert.Kernel5Ideal.Inproj

end
-- ==== Proof.Inproj.RunB.lean ====
/- The run of the body at the later points. -/
module

public import proofs.«01_k».proof.Proof.Inproj.RunA

@[expose] public section

set_option maxRecDepth 16384

noncomputable section

namespace Cert.Kernel5Ideal.Inproj

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores, as pieces, in this case: on whole buffers, the inputs' at their contents, it runs
    and leaves the inputs' as they were, outputs 5 and 7 and the scratch untouched, the pieces in outputs 4 and 6. -/
noncomputable def runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S128x2048 .f32) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S128x2048 .bf16) (harg9 : arg9.IsWhole) (arg10 : Memref sig .tc .vmem S1024x2048 .bf16) (harg10 : arg10.IsWhole) (arg11 : Memref sig .tc .vmem S1024x1 .f32) (harg11 : arg11.IsWhole) (hc0 : ¬cond0_0 i) (hc1 : cond0_1 i)
    (x0 : Vec F S1024x2048 .f32) (x1 : Vec F S1x2048 .f32) (x2 : Vec F S1024x2048 .f32) (x3 : Vec F S128x2048 .f32) (xs0 : Vec F S1024x2048 .bf16) (xs1 : Vec F S1024x1 .f32) :
    Σ' (L4 : List (View.Piece (Elt F) S1024x1024 .bf16)), { L6 : List (View.Piece (Elt F) S1024x2048 .bf16) //
      ∀ (xi5 : Vec F S1024x128 .f32) (xi7 : Vec F S128x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d) ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f L6) ∗ owns (c : Thread nD τ) arg9 fullShare xi7 ∗ owns (c : Thread nD τ) arg10 fullShare xs0 ∗ owns (c : Thread nD τ) arg11 fullShare xs1) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11) K } := by
  refine ⟨?_, ?_, fun xi5 xi7 E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hf5
    obtain rfl := harg9.eq_unread hf7
    obtain rfl := harg10.eq_unread hfs0
    obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [HS0]
    · iexists _; isplitr; · ipureintro; exact harg10.read_unread _
      iexact HS0
    iexists _; isplitr; · ipureintro; exact harg11.read_unread _
    iexact HS1

end Cert.Kernel5Ideal.Inproj

end
-- ==== Proof.Inproj.Data.lean ====
/- What the points leave, and the proof data of the pipeline. -/
module

public import proofs.«01_k».proof.Proof.Inproj.RunB

@[expose] public section

set_option maxRecDepth 16384

noncomputable section

namespace Cert.Kernel5Ideal.Inproj

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces this case stores into output 4 at the point `t`. -/
abbrev piecesA4 (c : Dev nD) (t : Fin cfg0.N) (hA : cond0_0 (grid0.coords t)) (hB : ¬cond0_1 (grid0.coords t)) : List (View.Piece (Elt F) S1024x1024 .bf16) :=
  (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hA hB (iblk m c 0 t) (iblk m c 1 t) (iblk m c 2 t) (X0_3 m c t)).1

/-- They cover the block. -/
theorem coverA4 (c : Dev nD) (t : Fin cfg0.N) (hA : cond0_0 (grid0.coords t)) (hB : ¬cond0_1 (grid0.coords t)) (y : S1024x1024.Idx) : ∃ pc ∈ piecesA4 m c t hA hB, y ∈ pc.1.set :=
  View.cover_of_tiledL (piecesA4 m c t hA hB) S1024x1024.size (by sl_kernel_rfl) y

/-- What this case leaves in output 4 at the point `t`. -/
def outA4 (c : Dev nD) (t : Fin cfg0.N) (hA : cond0_0 (grid0.coords t)) (hB : ¬cond0_1 (grid0.coords t)) : Vec F S1024x1024 .bf16 :=
  VO0_4.read (Elt F) (VO0_4.writes (Elt F) VO0_4.junk (piecesA4 m c t hA hB))

/-- The pieces this case stores into output 5 at the point `t`. -/
abbrev piecesA5 (c : Dev nD) (t : Fin cfg0.N) (hA : cond0_0 (grid0.coords t)) (hB : ¬cond0_1 (grid0.coords t)) : List (View.Piece (Elt F) S1024x128 .f32) :=
  (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hA hB (iblk m c 0 t) (iblk m c 1 t) (iblk m c 2 t) (X0_3 m c t)).2.1

/-- They cover the block. -/
theorem coverA5 (c : Dev nD) (t : Fin cfg0.N) (hA : cond0_0 (grid0.coords t)) (hB : ¬cond0_1 (grid0.coords t)) (y : S1024x128.Idx) : ∃ pc ∈ piecesA5 m c t hA hB, y ∈ pc.1.set :=
  View.cover_of_tiledL (piecesA5 m c t hA hB) S1024x128.size (by sl_kernel_rfl) y

/-- What this case leaves in output 5 at the point `t`. -/
def outA5 (c : Dev nD) (t : Fin cfg0.N) (hA : cond0_0 (grid0.coords t)) (hB : ¬cond0_1 (grid0.coords t)) : Vec F S1024x128 .f32 :=
  VO0_5.read (Elt F) (VO0_5.writes (Elt F) VO0_5.junk (piecesA5 m c t hA hB))

/-- The pieces this case stores into output 6 at the point `t`. -/
abbrev piecesA6 (c : Dev nD) (t : Fin cfg0.N) (hA : cond0_0 (grid0.coords t)) (hB : ¬cond0_1 (grid0.coords t)) : List (View.Piece (Elt F) S1024x2048 .bf16) :=
  (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hA hB (iblk m c 0 t) (iblk m c 1 t) (iblk m c 2 t) (X0_3 m c t)).2.2.1

/-- They cover the block. -/
theorem coverA6 (c : Dev nD) (t : Fin cfg0.N) (hA : cond0_0 (grid0.coords t)) (hB : ¬cond0_1 (grid0.coords t)) (y : S1024x2048.Idx) : ∃ pc ∈ piecesA6 m c t hA hB, y ∈ pc.1.set :=
  View.cover_of_tiledL (piecesA6 m c t hA hB) S1024x2048.size (by sl_kernel_rfl) y

/-- What this case leaves in output 6 at the point `t`. -/
def outA6 (c : Dev nD) (t : Fin cfg0.N) (hA : cond0_0 (grid0.coords t)) (hB : ¬cond0_1 (grid0.coords t)) : Vec F S1024x2048 .bf16 :=
  VO0_6.read (Elt F) (VO0_6.writes (Elt F) VO0_6.junk (piecesA6 m c t hA hB))

/-- The pieces this case stores into output 7 at the point `t`. -/
abbrev piecesA7 (c : Dev nD) (t : Fin cfg0.N) (hA : cond0_0 (grid0.coords t)) (hB : ¬cond0_1 (grid0.coords t)) : List (View.Piece (Elt F) S128x2048 .bf16) :=
  (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hA hB (iblk m c 0 t) (iblk m c 1 t) (iblk m c 2 t) (X0_3 m c t)).2.2.2.1

/-- They cover the block. -/
theorem coverA7 (c : Dev nD) (t : Fin cfg0.N) (hA : cond0_0 (grid0.coords t)) (hB : ¬cond0_1 (grid0.coords t)) (y : S128x2048.Idx) : ∃ pc ∈ piecesA7 m c t hA hB, y ∈ pc.1.set :=
  View.cover_of_tiledL (piecesA7 m c t hA hB) S128x2048.size (by sl_kernel_rfl) y

/-- What this case leaves in output 7 at the point `t`. -/
def outA7 (c : Dev nD) (t : Fin cfg0.N) (hA : cond0_0 (grid0.coords t)) (hB : ¬cond0_1 (grid0.coords t)) : Vec F S128x2048 .bf16 :=
  VO0_7.read (Elt F) (VO0_7.writes (Elt F) VO0_7.junk (piecesA7 m c t hA hB))

/-- The pieces this case stores into the first scratch at the point `t`. -/
abbrev piecesAS0 (c : Dev nD) (t : Fin cfg0.N) (hA : cond0_0 (grid0.coords t)) (hB : ¬cond0_1 (grid0.coords t)) : List (View.Piece (Elt F) S1024x2048 .bf16) :=
  (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hA hB (iblk m c 0 t) (iblk m c 1 t) (iblk m c 2 t) (X0_3 m c t)).2.2.2.2.1

/-- They cover the block. -/
theorem coverAS0 (c : Dev nD) (t : Fin cfg0.N) (hA : cond0_0 (grid0.coords t)) (hB : ¬cond0_1 (grid0.coords t)) (y : S1024x2048.Idx) : ∃ pc ∈ piecesAS0 m c t hA hB, y ∈ pc.1.set :=
  View.cover_of_tiledL (piecesAS0 m c t hA hB) S1024x2048.size (by sl_kernel_rfl) y

/-- What this case leaves in the first scratch at the point `t`. -/
def outAS0 (c : Dev nD) (t : Fin cfg0.N) (hA : cond0_0 (grid0.coords t)) (hB : ¬cond0_1 (grid0.coords t)) : Vec F S1024x2048 .bf16 :=
  scM0_0.view.read (Elt F) (scM0_0.view.writes (Elt F) scM0_0.view.junk (piecesAS0 m c t hA hB))

/-- The pieces this case stores into the second scratch at the point `t`. -/
abbrev piecesAS1 (c : Dev nD) (t : Fin cfg0.N) (hA : cond0_0 (grid0.coords t)) (hB : ¬cond0_1 (grid0.coords t)) : List (View.Piece (Elt F) S1024x1 .f32) :=
  (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hA hB (iblk m c 0 t) (iblk m c 1 t) (iblk m c 2 t) (X0_3 m c t)).2.2.2.2.2.1

/-- They cover the block. -/
theorem coverAS1 (c : Dev nD) (t : Fin cfg0.N) (hA : cond0_0 (grid0.coords t)) (hB : ¬cond0_1 (grid0.coords t)) (y : S1024x1.Idx) : ∃ pc ∈ piecesAS1 m c t hA hB, y ∈ pc.1.set :=
  View.cover_of_tiledL (piecesAS1 m c t hA hB) S1024x1.size (by sl_kernel_rfl) y

/-- What this case leaves in the second scratch at the point `t`. -/
def outAS1 (c : Dev nD) (t : Fin cfg0.N) (hA : cond0_0 (grid0.coords t)) (hB : ¬cond0_1 (grid0.coords t)) : Vec F S1024x1 .f32 :=
  scM0_1.view.read (Elt F) (scM0_1.view.writes (Elt F) scM0_1.view.junk (piecesAS1 m c t hA hB))

/-- The pieces this case stores into output 4 at the point `t`. -/
abbrev piecesB4 (c : Dev nD) (t : Fin cfg0.N) (hA : ¬cond0_0 (grid0.coords t)) (hB : cond0_1 (grid0.coords t)) (xs0 : Vec F S1024x2048 .bf16) (xs1 : Vec F S1024x1 .f32) : List (View.Piece (Elt F) S1024x1024 .bf16) :=
  (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hA hB (iblk m c 0 t) (iblk m c 1 t) (iblk m c 2 t) (X0_3 m c t) xs0 xs1).1

/-- They cover the block. -/
theorem coverB4 (c : Dev nD) (t : Fin cfg0.N) (hA : ¬cond0_0 (grid0.coords t)) (hB : cond0_1 (grid0.coords t)) (xs0 : Vec F S1024x2048 .bf16) (xs1 : Vec F S1024x1 .f32) (y : S1024x1024.Idx) : ∃ pc ∈ piecesB4 m c t hA hB xs0 xs1, y ∈ pc.1.set :=
  View.cover_of_tiledL (piecesB4 m c t hA hB xs0 xs1) S1024x1024.size (by sl_kernel_rfl) y

/-- What this case leaves in output 4 at the point `t`. -/
def outB4 (c : Dev nD) (t : Fin cfg0.N) (hA : ¬cond0_0 (grid0.coords t)) (hB : cond0_1 (grid0.coords t)) (xs0 : Vec F S1024x2048 .bf16) (xs1 : Vec F S1024x1 .f32) : Vec F S1024x1024 .bf16 :=
  VO0_4.read (Elt F) (VO0_4.writes (Elt F) VO0_4.junk (piecesB4 m c t hA hB xs0 xs1))

/-- The pieces this case stores into output 6 at the point `t`. -/
abbrev piecesB6 (c : Dev nD) (t : Fin cfg0.N) (hA : ¬cond0_0 (grid0.coords t)) (hB : cond0_1 (grid0.coords t)) (xs0 : Vec F S1024x2048 .bf16) (xs1 : Vec F S1024x1 .f32) : List (View.Piece (Elt F) S1024x2048 .bf16) :=
  (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hA hB (iblk m c 0 t) (iblk m c 1 t) (iblk m c 2 t) (X0_3 m c t) xs0 xs1).2.1

/-- They cover the block. -/
theorem coverB6 (c : Dev nD) (t : Fin cfg0.N) (hA : ¬cond0_0 (grid0.coords t)) (hB : cond0_1 (grid0.coords t)) (xs0 : Vec F S1024x2048 .bf16) (xs1 : Vec F S1024x1 .f32) (y : S1024x2048.Idx) : ∃ pc ∈ piecesB6 m c t hA hB xs0 xs1, y ∈ pc.1.set :=
  View.cover_of_tiledL (piecesB6 m c t hA hB xs0 xs1) S1024x2048.size (by sl_kernel_rfl) y

/-- What this case leaves in output 6 at the point `t`. -/
def outB6 (c : Dev nD) (t : Fin cfg0.N) (hA : ¬cond0_0 (grid0.coords t)) (hB : cond0_1 (grid0.coords t)) (xs0 : Vec F S1024x2048 .bf16) (xs1 : Vec F S1024x1 .f32) : Vec F S1024x2048 .bf16 :=
  VO0_6.read (Elt F) (VO0_6.writes (Elt F) VO0_6.junk (piecesB6 m c t hA hB xs0 xs1))

/-- The first point. -/
def p0 : Fin cfg0.N := t0_0
/-- It is of the first case, -/
theorem p0A : cond0_0 (grid0.coords p0) := (hcond0_0 p0).mpr rfl
/-- and not of the second. -/
theorem p0B : ¬cond0_1 (grid0.coords p0) := fun h => absurd ((hcond0_1 p0).mp h) (by decide)
/-- The first case is the first point only. -/
theorem eq_p0 (t : Fin cfg0.N) (hA : cond0_0 (grid0.coords t)) : t = p0 := by
  have h := (hcond0_0 t).mp hA
  have ht : t.val < 5 := lt_of_lt_of_eq t.isLt (show cfg0.N = 5 from N_0)
  exact Fin.ext (show t.val = 0 by omega)

/-- What the scratch holds after the first point, and from then on. -/
def scr0 (c : Dev nD) : Vec F S1024x2048 .bf16 := outAS0 m c p0 p0A p0B
def scr1 (c : Dev nD) : Vec F S1024x1 .f32 := outAS1 m c p0 p0A p0B

/-- What output 4's buffer holds after the point `t`. -/
def after4 (c : Dev nD) (t : Fin cfg0.N) : Vec F S1024x1024 .bf16 :=
  if h : ¬cond0_0 (grid0.coords t) ∧ cond0_1 (grid0.coords t) then outB4 m c t h.1 h.2 (scr0 m c) (scr1 m c) else outA4 m c p0 p0A p0B

/-- What output 5's buffer holds after any point. -/
def after5 (c : Dev nD) : Vec F S1024x128 .f32 := outA5 m c p0 p0A p0B

/-- What output 6's buffer holds after the point `t`. -/
def after6 (c : Dev nD) (t : Fin cfg0.N) : Vec F S1024x2048 .bf16 :=
  if h : ¬cond0_0 (grid0.coords t) ∧ cond0_1 (grid0.coords t) then outB6 m c t h.1 h.2 (scr0 m c) (scr1 m c) else outA6 m c p0 p0A p0B

/-- What output 7's buffer holds after any point. -/
def after7 (c : Dev nD) : Vec F S128x2048 .bf16 := outA7 m c p0 p0A p0B

/-- Output 4 after the first point, -/
theorem after4_A (c : Dev nD) : after4 m c p0 = outA4 m c p0 p0A p0B := dif_neg fun h => h.1 p0A
/-- and after a later one. -/
theorem after4_B (c : Dev nD) (t : Fin cfg0.N) (hA : ¬cond0_0 (grid0.coords t)) (hB : cond0_1 (grid0.coords t)) : after4 m c t = outB4 m c t hA hB (scr0 m c) (scr1 m c) := dif_pos ⟨hA, hB⟩

/-- Output 6 after the first point, -/
theorem after6_A (c : Dev nD) : after6 m c p0 = outA6 m c p0 p0A p0B := dif_neg fun h => h.1 p0A
/-- and after a later one. -/
theorem after6_B (c : Dev nD) (t : Fin cfg0.N) (hA : ¬cond0_0 (grid0.coords t)) (hB : cond0_1 (grid0.coords t)) : after6 m c t = outB6 m c t hA hB (scr0 m c) (scr1 m c) := dif_pos ⟨hA, hB⟩

/-- What holds of the scratch before a point: nothing before the first, then what the first left. -/
def PhiS (c : Dev nD) : (n : ℕ) → sProp 𝕄
  | 0 => Pipeline.ΦA spec0 c
  | _ + 1 => iprop(iprop(owns (c : Thread nD τ) scM0_0 fullShare (scr0 m c) ∗ owns (c : Thread nD τ) scM0_1 fullShare (scr1 m c)) ∗ (∃ r, prngReg c r))

theorem PhiS_pos (c : Dev nD) (n : ℕ) (h : n ≠ 0) : PhiS m c n = iprop(iprop(owns (c : Thread nD τ) scM0_0 fullShare (scr0 m c) ∗ owns (c : Thread nD τ) scM0_1 fullShare (scr1 m c)) ∗ (∃ r, prngReg c r)) := by
  cases n with
  | zero => exact absurd rfl h
  | succ n => rfl

/-- The proof data of the pipeline: the arrays as the region finds them; after a point each input's buffer at its block, the outputs' at `after4` to `after7`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => after4 m c t
    | ⟨5, _⟩ => after5 m c
    | ⟨6, _⟩ => after6 m c t
    | ⟨7, _⟩ => after7 m c
    | ⟨_ + 8, h⟩ => absurd h (Nat.not_lt.2 (Nat.le_add_left _ _))
  Φ t := PhiS m c t.val
  q w := Pipeline.shareOf spec0 w
  owed _ := 0

/-- The arrays are those the region finds. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = X0_3 m c t := by dsimp only [dats]
/-- What the body leaves in window 4. -/
theorem after0_4 (c : Dev nD) (t : Fin cfg0.N) : (dats m 0 c).after 4 t = after4 m c t := by dsimp only [dats]
/-- What the body leaves in window 5. -/
theorem after0_5 (c : Dev nD) (t : Fin cfg0.N) : (dats m 0 c).after 5 t = after5 m c := by dsimp only [dats]
/-- What the body leaves in window 6. -/
theorem after0_6 (c : Dev nD) (t : Fin cfg0.N) : (dats m 0 c).after 6 t = after6 m c t := by dsimp only [dats]
/-- What the body leaves in window 7. -/
theorem after0_7 (c : Dev nD) (t : Fin cfg0.N) : (dats m 0 c).after 7 t = after7 m c := by dsimp only [dats]
/-- What the body finds in window 0. -/
theorem before0_0 (c : Dev nD) (t : Fin cfg0.N) (d) : (dats m 0 c).before 0 t d = iblk m c 0 t := before0_0_of m (dats m 0 c) (A_eq m c 0) (after0_0 m c) t d
/-- What the body finds in window 1. -/
theorem before0_1 (c : Dev nD) (t : Fin cfg0.N) (d) : (dats m 0 c).before 1 t d = iblk m c 1 t := before0_1_of m (dats m 0 c) (A_eq m c 1) (after0_1 m c) t d
/-- What the body finds in window 2. -/
theorem before0_2 (c : Dev nD) (t : Fin cfg0.N) (d) : (dats m 0 c).before 2 t d = iblk m c 2 t := before0_2_of m (dats m 0 c) (A_eq m c 2) (after0_2 m c) t d
/-- What the body finds in window 3. -/
theorem before0_3 (c : Dev nD) (t : Fin cfg0.N) (d) : (dats m 0 c).before 3 t d = X0_3 m c t := before0_3_of m (dats m 0 c) (A_eq m c 3) (after0_3 m c) t d

/-- At a later point the body finds the first point's block in output 5. -/
theorem before0_5 (c : Dev nD) (t : Fin cfg0.N) (hA : ¬cond0_0 (grid0.coords t)) (hB : cond0_1 (grid0.coords t)) (d) : (dats m 0 c).before 5 t d = after5 m c := by
  rw [Dat.before_out_traj (dats m 0 c) 5 rfl (fun _ _ => rfl) (fun u hu hi _ => by
    rw [after0_5, after0_5]) t.val t rfl d, fresh0_5_B t hA hB, if_neg Bool.false_ne_true, after0_5]

/-- So handing output 5's buffer back untouched is all that is asked there. -/
theorem leaves0_5 (c : Dev nD) (t : Fin cfg0.N) (hA : ¬cond0_0 (grid0.coords t)) (hB : cond0_1 (grid0.coords t)) :
    owns (c : Thread nD τ) (ms0_5 t) fullShare (after5 m c) ⊢ (dats m 0 c).leavesExact 5 t := by
  cases hf : (cfg0.win 5).flush t
  · rw [Dat.leavesExact_idle (dats m 0 c) 5 t (idleAt0_5_B t hA hB) hf]
    iintro H
    iexists (fun _ => Classical.choice inferInstance)
    rw [before0_5 m c t hA hB]
    iexact H
  · rw [show (dats m 0 c).leavesExact 5 t = owns (c : Thread nD τ) (ms0_5 t) fullShare ((dats m 0 c).after 5 t) from by
      unfold Dat.leavesExact; rw [idleAt0_5_B t hA hB, hf], after0_5]

/-- At a later point the body finds the first point's block in output 7. -/
theorem before0_7 (c : Dev nD) (t : Fin cfg0.N) (hA : ¬cond0_0 (grid0.coords t)) (hB : cond0_1 (grid0.coords t)) (d) : (dats m 0 c).before 7 t d = after7 m c := by
  rw [Dat.before_out_traj (dats m 0 c) 7 rfl (fun _ _ => rfl) (fun u hu hi _ => by
    rw [after0_7, after0_7]) t.val t rfl d, fresh0_7_B t hA hB, if_neg Bool.false_ne_true, after0_7]

/-- So handing output 7's buffer back untouched is all that is asked there. -/
theorem leaves0_7 (c : Dev nD) (t : Fin cfg0.N) (hA : ¬cond0_0 (grid0.coords t)) (hB : cond0_1 (grid0.coords t)) :
    owns (c : Thread nD τ) (ms0_7 t) fullShare (after7 m c) ⊢ (dats m 0 c).leavesExact 7 t := by
  cases hf : (cfg0.win 7).flush t
  · rw [Dat.leavesExact_idle (dats m 0 c) 7 t (idleAt0_7_B t hA hB) hf]
    iintro H
    iexists (fun _ => Classical.choice inferInstance)
    rw [before0_7 m c t hA hB]
    iexact H
  · rw [show (dats m 0 c).leavesExact 7 t = owns (c : Thread nD τ) (ms0_7 t) fullShare ((dats m 0 c).after 7 t) from by
      unfold Dat.leavesExact; rw [idleAt0_7_B t hA hB, hf], after0_7]

end Cert.Kernel5Ideal.Inproj

end
-- ==== Proof.Inproj.Frame.lean ====
/- The body obligation at every point, the launch and the frame. -/
module

public import proofs.«01_k».proof.Proof.Inproj.Data
public import proofs.«01_k».proof.Proof.Gen.Kernel5Ideal.Launch
public import Idealize.ShloMosaic.Lib.Claim

@[expose] public section

set_option maxRecDepth 16384

noncomputable section

namespace Cert.Kernel5Ideal.Inproj

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at the point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at a point of this case. -/
theorem bodyA (c : Dev nD) (t : Fin cfg0.N) (hA : cond0_0 (grid0.coords t)) (hB : ¬cond0_1 (grid0.coords t)) :
    bodyPre m c t ⊢ wp frame (wpE (defs₀ (F := F)) Variants.none c none) Set.univ (bodyAt0 t) (fun _ => bodyPost m c t) := by
  obtain rfl := eq_p0 t hA
  unfold bodyPre bodyPost bodyAt0
  simp only [before0_0, before0_1, before0_2, before0_3]
  rw [show (dats m 0 c).owesAt () p0.succ = (dats m 0 c).owesAt () p0.castSucc from rfl]
  rw [show (dats m 0 c).Φ p0.succ = iprop(iprop(owns (c : Thread nD τ) scM0_0 fullShare (scr0 m c) ∗ owns (c : Thread nD τ) scM0_1 fullShare (scr1 m c)) ∗ (∃ r, prngReg c r)) from rfl]
  rw [show (dats m 0 c).Φ p0.castSucc = Pipeline.ΦA spec0 c from rfl, PhiA0_eq]
  rw [show (dats m 0 c).leavesExact 0 p0 = owns (c : Thread nD τ) (ms0_0 p0) fullShare ((dats m 0 c).after 0 p0) from by
    unfold Dat.leavesExact; rw [liveAt0_0 p0], after0_0]
  rw [show (dats m 0 c).leavesExact 1 p0 = owns (c : Thread nD τ) (ms0_1 p0) fullShare ((dats m 0 c).after 1 p0) from by
    unfold Dat.leavesExact; rw [liveAt0_1 p0], after0_1]
  rw [show (dats m 0 c).leavesExact 2 p0 = owns (c : Thread nD τ) (ms0_2 p0) fullShare ((dats m 0 c).after 2 p0) from by
    unfold Dat.leavesExact; rw [liveAt0_2 p0], after0_2]
  rw [show (dats m 0 c).leavesExact 3 p0 = owns (c : Thread nD τ) (ms0_3 p0) fullShare ((dats m 0 c).after 3 p0) from by
    unfold Dat.leavesExact; rw [liveAt0_3 p0], after0_3]
  rw [show (dats m 0 c).leavesExact 4 p0 = owns (c : Thread nD τ) (ms0_4 p0) fullShare ((dats m 0 c).after 4 p0) from by
    unfold Dat.leavesExact; rw [liveAt0_4 p0], after0_4]
  rw [show (dats m 0 c).leavesExact 6 p0 = owns (c : Thread nD τ) (ms0_6 p0) fullShare ((dats m 0 c).after 6 p0) from by
    unfold Dat.leavesExact; rw [liveAt0_6 p0], after0_6]
  rw [show (dats m 0 c).leavesExact 5 p0 = owns (c : Thread nD τ) (ms0_5 p0) fullShare ((dats m 0 c).after 5 p0) from by
    unfold Dat.leavesExact; rw [liveAt0_5_A p0 hA hB], after0_5]
  rw [show (dats m 0 c).leavesExact 7 p0 = owns (c : Thread nD τ) (ms0_7 p0) fullShare ((dats m 0 c).after 7 p0) from by
    unfold Dat.leavesExact; rw [liveAt0_7_A p0 hA hB], after0_7]
  rw [after4_A m c, after6_A m c]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) scM0_0 (Memref.isWhole_whole _) scM0_1 (Memref.isWhole_whole _) hA hB (iblk m c 0 p0) (iblk m c 1 p0) (iblk m c 2 p0) (X0_3 m c p0)).2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, ⟨%e4, H4⟩, ⟨%e5, H5⟩, ⟨%e6, H6⟩, ⟨%e7, H7⟩, ⟨%eS0, HS0⟩, ⟨%eS1, HS1⟩⟩
  isplitl [HS0 HS1 Hg]
  · isplitl [HS0 HS1]
    · isplitl [HS0]
      · unfold scr0 outAS0 owns; iexists _; isplitr
        swap; · iexact HS0
        ipureintro; exact View.read_writes_of_cover _ _ _ _ _ (coverAS0 m c p0 hA hB)
      · unfold scr1 outAS1 owns; iexists _; isplitr
        swap; · iexact HS1
        ipureintro; exact View.read_writes_of_cover _ _ _ _ _ (coverAS1 m c p0 hA hB)
    iexact Hg
  isplitl [Ho]; · iexact Ho
  isplitl [H0]; · iexact H0
  isplitl [H1]; · iexact H1
  isplitl [H2]; · iexact H2
  isplitl [H3]; · iexact H3
  isplitl [H4]
  · unfold outA4 owns; iexists _; isplitr
    swap; · iexact H4
    ipureintro; exact View.read_writes_of_cover _ _ _ _ _ (coverA4 m c p0 hA hB)
  isplitl [H5]
  · unfold after5 outA5 owns; iexists _; isplitr
    swap; · iexact H5
    ipureintro; exact View.read_writes_of_cover _ _ _ _ _ (coverA5 m c p0 hA hB)
  isplitl [H6]
  · unfold outA6 owns; iexists _; isplitr
    swap; · iexact H6
    ipureintro; exact View.read_writes_of_cover _ _ _ _ _ (coverA6 m c p0 hA hB)
  · unfold after7 outA7 owns; iexists _; isplitr
    swap; · iexact H7
    ipureintro; exact View.read_writes_of_cover _ _ _ _ _ (coverA7 m c p0 hA hB)

set_option maxHeartbeats 4000000 in
/-- The body at a point of this case. -/
theorem bodyB (c : Dev nD) (t : Fin cfg0.N) (hA : ¬cond0_0 (grid0.coords t)) (hB : cond0_1 (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = iprop(iprop(owns (c : Thread nD τ) scM0_0 fullShare (scr0 m c) ∗ owns (c : Thread nD τ) scM0_1 fullShare (scr1 m c)) ∗ (∃ r, prngReg c r)) from rfl]
  rw [show (dats m 0 c).Φ t.castSucc = PhiS m c t.val from rfl, PhiS_pos m c _ (by have := (hcond0_1 t).mp hB; omega)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 6 t = owns (c : Thread nD τ) (ms0_6 t) fullShare ((dats m 0 c).after 6 t) from by
    unfold Dat.leavesExact; rw [liveAt0_6 t], after0_6]
  simp only [before0_5 m c t hA hB, before0_7 m c t hA hB]
  rw [after4_B m c t hA hB, after6_B m c t hA hB]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hA hB (iblk m c 0 t) (iblk m c 1 t) (iblk m c 2 t) (X0_3 m c t) (scr0 m c) (scr1 m c)).2.2 _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  isplitl [H7]; · iexact H7
  isplitl [HS0]; · iexact HS0
  isplitl [HS1]; · iexact HS1
  iintro ⟨H0, H1, H2, H3, ⟨%e4, H4⟩, H5, ⟨%e6, H6⟩, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]
  · unfold outB4 owns; iexists _; isplitr
    swap; · iexact H4
    ipureintro; exact View.read_writes_of_cover _ _ _ _ _ (coverB4 m c t hA hB (scr0 m c) (scr1 m c))
  isplitl [H5]
  · iapply (leaves0_5 m c t hA hB); iexact H5
  isplitl [H6]
  · unfold outB6 owns; iexists _; isplitr
    swap; · iexact H6
    ipureintro; exact View.read_writes_of_cover _ _ _ _ _ (coverB6 m c t hA hB (scr0 m c) (scr1 m c))
  · iapply (leaves0_7 m c t hA hB); iexact H7

/-- The body at every point. -/
theorem sound_body (c : Dev nD) (t : Fin cfg0.N) :
    bodyPre m c t ⊢ wp frame (wpE (defs₀ (F := F)) Variants.none c none) Set.univ (bodyAt0 t) (fun _ => bodyPost m c t) := by
  have ht : t.val < 5 := lt_of_lt_of_eq t.isLt (show cfg0.N = 5 from N_0)
  by_cases h : 1 ≤ t.val
  · exact bodyB m c t (fun g => by have := (hcond0_0 t).mp g; omega) ((hcond0_1 t).mpr h)
  · exact bodyA m c t ((hcond0_0 t).mpr (by omega)) (fun g => h ((hcond0_1 t).mp g))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives it back: the scratch's contents are forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 5 := N_0; omega), PhiA0_eq]
  iintro ⟨⟨HS0, HS1⟩, Hg⟩
  isplitl [HS0 HS1]
  · isplitl [HS0]
    · iexists _; iexact HS0
    iexists _; iexact HS1
  iexact Hg

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame at any values: every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel5Ideal.Inproj

end
-- ==== Proof.Inproj.Reads.lean ====
/- The input product's call: what one grid point computes, and its blocks as parts of the arguments. -/
module

public import proofs.«01_k».proof.Proof.Inproj.Frame
public import proofs.«01_k».proof.Proof.Row.Row
public import Idealize.ShloMosaic.Lib.Pointwise
public import Idealize.ShloMosaic.Lib.Pipeline.ValueKit

@[expose] public section

set_option maxRecDepth 16384

noncomputable section

namespace Cert.Kernel5Ideal.Inproj

open Cert.Kernel5Ideal Cert.Kernel5Ideal.Gen Idealize.ShloMosaic Idealize.ShloMosaic.TcCoe Idealize.SL.Sem
open Idealize.ShloMosaic.Pipeline (Dat)
open Cert.Row (rinv scaled)

/-! What a point computes, at an index. -/

theorem pay5_at (x : FVec Ideal S1024x2048 .f32) (g : FVec Ideal S1x2048 .f32) (a : Fin 1024) (b : Fin 2048) :
    k0_pay5 (F := Ideal) x g (ix2 a b) = x (ix2 a b) * g (ix2 0 b) := by
  pointwise [k0_pay5, k0_pay4]

theorem pay6_at (x : FVec Ideal S1024x2048 .f32) (g : FVec Ideal S1x2048 .f32) (a : Fin 1024) (b : Fin 2048) :
    k0_pay6 (F := Ideal) x g (ix2 a b) = x (ix2 a b) * g (ix2 0 b) := by
  pointwise [k0_pay6, pay5_at]

theorem pay7_at (x : FVec Ideal S1024x2048 .f32) (a : Fin 1024) (b : Fin 1) :
    k0_pay7 (F := Ideal) x (ix2 a b) = rinv fun k => x (ix2 a k) := by
  pointwise [k0_pay7, k0_pay4, rinv]

theorem pay8_at (x : FVec Ideal S1024x2048 .f32) (a : Fin 1024) (b : Fin 1) :
    k0_pay8 (F := Ideal) x (ix2 a b) = rinv fun k => x (ix2 a k) := by
  pointwise [k0_pay8, pay7_at]

theorem pay2_at (w : FVec Ideal S1024x2048 .f32) (a : Fin 1024) (b : Fin 2048) : k0_pay2 (F := Ideal) w (ix2 a b) = w (ix2 a b) := by
  pointwise [k0_pay2]

theorem pay9_at (w : FVec Ideal S128x2048 .f32) (a : Fin 128) (b : Fin 2048) : k0_pay9 (F := Ideal) w (ix2 a b) = w (ix2 a b) := by
  pointwise [k0_pay9]

theorem pay11_at (w : FVec Ideal S1024x2048 .f32) (a : Fin 1024) (b : Fin 2048) : k0_pay11 (F := Ideal) w (ix2 a b) = w (ix2 a b) := by
  pointwise [k0_pay11]

theorem pay1_at (x : FVec Ideal S1024x2048 .bf16) (r : FVec Ideal S1024x1 .f32) (w : FVec Ideal S1024x2048 .bf16) (a b : Fin 1024) :
    k0_pay1 (F := Ideal) x r w (ix2 a b) = r (ix2 a 0) * ∑ k, x (ix2 a k) * w (ix2 b k) := by
  pointwise [k0_pay1]

theorem pay3_at (x : FVec Ideal S1024x2048 .bf16) (r : FVec Ideal S1024x1 .f32) (w : FVec Ideal S1024x2048 .f32) (a b : Fin 1024) :
    k0_pay3 (F := Ideal) x r w (ix2 a b) = r (ix2 a 0) * ∑ k, x (ix2 a k) * w (ix2 b k) := by
  pointwise [k0_pay3, pay2_at]

theorem pay10_at (x : FVec Ideal S1024x2048 .f32) (g : FVec Ideal S1x2048 .f32) (w : FVec Ideal S128x2048 .f32) (a : Fin 1024) (b : Fin 128) :
    k0_pay10 (F := Ideal) x g w (ix2 a b) = (rinv fun k => x (ix2 a k)) * ∑ k, x (ix2 a k) * g (ix2 0 k) * w (ix2 b k) := by
  pointwise [k0_pay10, pay5_at, pay7_at, pay9_at]

variable (m : (ℓ : Loc nD τ sig) → Buf (Elt Ideal) ℓ)

theorem lt5 (t : Fin cfg0.N) : t.val < 5 := t.isLt

/-- The three arguments. -/
abbrev aX (c : Dev nD) : FVec Ideal S128x8x2048 .f32 := m ((c : Thread nD τ).loc main_arg0)
abbrev aG (c : Dev nD) : FVec Ideal S1x2048 .f32 := m ((c : Thread nD τ).loc main_arg1)
abbrev aW (c : Dev nD) : FVec Ideal S1x2048x5136 .f32 := m ((c : Thread nD τ).loc main_arg2)

/-- The four input blocks of point `t`. -/
abbrev b0 (c : Dev nD) (t : Fin cfg0.N) : FVec Ideal S1024x2048 .f32 := iblk m c 0 t
abbrev b1 (c : Dev nD) (t : Fin cfg0.N) : FVec Ideal S1x2048 .f32 := iblk m c 1 t
abbrev b2 (c : Dev nD) (t : Fin cfg0.N) : FVec Ideal S1024x2048 .f32 := iblk m c 2 t
abbrev b3 (c : Dev nD) (t : Fin cfg0.N) : FVec Ideal S128x2048 .f32 := X0_3 m c t

theorem idx : ∀ t : Fin cfg0.N, win0_0.index t = ![0, 0] ∧ win0_1.index t = ![0, 0]
    ∧ win0_2.index t = ![1024 * t.val + 16 * (t.val / 3), 0] ∧ win0_3.index t = ![24, 0] ∧ win0_4.index t = ![0, t.val]
    ∧ win0_5.index t = ![0, 0] ∧ win0_6.index t = ![t.val, 0] ∧ win0_7.index t = ![0, 0] :=
  (by decide +kernel : ∀ t : Fin grid0.N, _)

theorem read0 (c : Dev nD) (t : Fin cfg0.N) (a : Fin 1024) (k : Fin 2048) :
    b0 m c t (ix2 a k) = aX m c (ix3 ⟨a.val / 8, by omega⟩ ⟨a.val % 8, by omega⟩ k) := by
  blk_simp [b0, iblk, idx t]
  entry_read
  pointwise
  blk_ext [idx t]

theorem read1 (c : Dev nD) (t : Fin cfg0.N) (k : Fin 2048) : b1 m c t (ix2 0 k) = aG m c (ix2 0 k) := by
  blk_simp [b1, iblk, idx t]
  entry_read
  pointwise
  blk_ext [idx t]

/-- The transposed weights, as the region finds them. -/
theorem wT (c : Dev nD) (r : Fin 5136) (k : Fin 2048) :
    (show FVec Ideal S5136x2048 .f32 from V m c main_v1) (ix2 r k) = aW m c (ix3 0 k r) := by
  entry_read
  pointwise

/-- Where window 2's block lies: its offset is counted in rows. -/
theorem emb2 (t : Fin cfg0.N) (a : Fin 1024) (k : Fin 2048) : (win0_2.blk t).view.emb (ix2 a k)
    = (ix2 ⟨1024 * t.val + 16 * (t.val / 3) + a.val, by have := lt5 t; omega⟩ k : S5136x2048.Idx) := by
  have h : ∀ i, (((win0_2.blk t).view.emb (ix2 a k) i : Fin _) : Nat) = win0_2.index t i + ((ix2 a k : S1024x2048.Idx) i).val :=
    fun i => ValueKit.view_emb_slice_whole_unit_val main_v1 _ _ _ (ix2 a k) i
  funext i
  fin_cases i
  · exact Fin.ext ((h 0).trans (by rw [(idx t).2.2.1]; rfl))
  · exact Fin.ext ((h 1).trans (by rw [(idx t).2.2.1]; exact Nat.zero_add _))

theorem read2 (c : Dev nD) (t : Fin cfg0.N) (a : Fin 1024) (k : Fin 2048) :
    b2 m c t (ix2 a k) = aW m c (ix3 0 k ⟨1024 * t.val + 16 * (t.val / 3) + a.val, by have := lt5 t; omega⟩) := by
  refine Eq.trans ?_ (wT m c _ k)
  exact congrArg (show FVec Ideal S5136x2048 .f32 from V m c main_v1) (emb2 t a k)

/-- Where window 3's block lies: rows 3072 to 3199. -/
theorem emb3 (t : Fin cfg0.N) (y : (win0_3.xblock (grid0.coords t)).Idx) (a : Fin 128) (k : Fin 2048) (h0 : (y 0).val = a.val) (h1 : (y 1).val = k.val) :
    (win0_3.blk t).view.emb y = (ix2 ⟨3072 + a.val, by omega⟩ k : S5136x2048.Idx) := by
  have h : ∀ i, (((win0_3.blk t).view.emb y i : Fin _) : Nat) = win0_3.index t i * win0_3.size i + (y i).val :=
    fun i => Pipeline.Window.rect_emb_val win0_3 t y i rfl
  funext i
  fin_cases i
  · exact Fin.ext ((h 0).trans (by rw [(idx t).2.2.2.1, h0]; rfl))
  · exact Fin.ext ((h 1).trans (by rw [(idx t).2.2.2.1, h1]; exact (congrArg (· + k.val) (Nat.zero_mul (win0_3.size 1))).trans (Nat.zero_add _)))

theorem read3 (c : Dev nD) (t : Fin cfg0.N) (a : Fin 128) (k : Fin 2048) :
    b3 m c t (ix2 a k) = aW m c (ix3 0 k ⟨3072 + a.val, by omega⟩) := by
  refine Eq.trans ?_ (wT m c _ k)
  unfold b3 X0_3 Pipeline.Window.fill
  rw [dif_pos (moved0_3 t _)]
  exact congrArg (show FVec Ideal S5136x2048 .f32 from V m c main_v1) (emb3 t _ a k rfl rfl)

/-! What a point leaves. -/

theorem outA4_eq (c : Dev nD) (t : Fin cfg0.N) (hA : cond0_0 (grid0.coords t)) (hB : ¬cond0_1 (grid0.coords t)) :
    outA4 m c t hA hB = k0_pay1 (F := Ideal) (k0_pay5 (F := Ideal) (b0 m c t) (b1 m c t)) (k0_pay7 (F := Ideal) (b0 m c t)) (k0_pay11 (F := Ideal) (b2 m c t)) := by
  unfold outA4 piecesA4
  frame_out

theorem outA5_eq (c : Dev nD) (t : Fin cfg0.N) (hA : cond0_0 (grid0.coords t)) (hB : ¬cond0_1 (grid0.coords t)) :
    outA5 m c t hA hB = k0_pay10 (F := Ideal) (b0 m c t) (b1 m c t) (b3 m c t) := by
  unfold outA5 piecesA5
  frame_out

theorem outA6_eq (c : Dev nD) (t : Fin cfg0.N) (hA : cond0_0 (grid0.coords t)) (hB : ¬cond0_1 (grid0.coords t)) :
    outA6 m c t hA hB = k0_pay11 (F := Ideal) (b2 m c t) := by
  unfold outA6 piecesA6
  frame_out

theorem outA7_eq (c : Dev nD) (t : Fin cfg0.N) (hA : cond0_0 (grid0.coords t)) (hB : ¬cond0_1 (grid0.coords t)) :
    outA7 m c t hA hB = k0_pay9 (F := Ideal) (b3 m c t) := by
  unfold outA7 piecesA7
  frame_out

theorem scr0_eq (c : Dev nD) : scr0 m c = k0_pay6 (F := Ideal) (b0 m c p0) (b1 m c p0) := by
  unfold scr0 outAS0 piecesAS0
  frame_out

theorem scr1_eq (c : Dev nD) : scr1 m c = k0_pay8 (F := Ideal) (b0 m c p0) := by
  unfold scr1 outAS1 piecesAS1
  frame_out

theorem outB4_eq (c : Dev nD) (t : Fin cfg0.N) (hA : ¬cond0_0 (grid0.coords t)) (hB : cond0_1 (grid0.coords t)) (xs0 : Vec Ideal S1024x2048 .bf16) (xs1 : Vec Ideal S1024x1 .f32) :
    outB4 m c t hA hB xs0 xs1 = k0_pay3 (F := Ideal) xs0 xs1 (b2 m c t) := by
  unfold outB4 piecesB4
  frame_out
  exact congrArg₂ (fun u v => k0_pay3 (F := Ideal) u v (b2 m c t)) ((Memref.isWhole_whole cc0_scratch0).read_unread xs0) ((Memref.isWhole_whole cc0_scratch1).read_unread xs1)

theorem outB6_eq (c : Dev nD) (t : Fin cfg0.N) (hA : ¬cond0_0 (grid0.coords t)) (hB : cond0_1 (grid0.coords t)) (xs0 : Vec Ideal S1024x2048 .bf16) (xs1 : Vec Ideal S1024x1 .f32) :
    outB6 m c t hA hB xs0 xs1 = k0_pay2 (F := Ideal) (b2 m c t) := by
  unfold outB6 piecesB6
  frame_out

end Cert.Kernel5Ideal.Inproj

end
-- ==== Proof.Inproj.Ref.lean ====
/- The input product's reference, in stages, read at an index. -/
module

public import proofs.«01_k».proof.Proof.Gen.Reference5Ideal.Run
public import proofs.«01_k».proof.Proof.Row.Row
public import Idealize.ShloMosaic.Lib.Pointwise

@[expose] public section

set_option maxRecDepth 16384

noncomputable section

namespace Cert.Reference5Ideal.Inproj

open Cert.Reference5Ideal Cert.Reference5Ideal.Gen Idealize.ShloMosaic Idealize.ShloMosaic.TcCoe Idealize.SL.Sem
open Cert.Row (rinv scaled)

/-- Every row normalised and scaled by `G`. -/
def norm (X : FVec Ideal S1024x2048 .f32) (G : FVec Ideal S2048 .f32) : FVec Ideal S1024x2048 .f32 :=
  mulf (mulf X (broadcastInDim S1024x2048 ![0, 1] bcast_S1024x1_S1024x2048_0_1 (Host.rsqrt (addf (Host.divf (broadcastInDim S1024x1 ![0] bcast_S1024_S1024x1_0 (Host.reduceAdd (mulf X X) (constant S_ .f32 0x00000000#32) reducesTo_S1024x2048_S1024_d1 h_S_)) (broadcastInDim S1024x1 ![] bcast_S_S1024x1 (constant S_ .f32 0x45000000#32))) (broadcastInDim S1024x1 ![] bcast_S_S1024x1 (constant S_ .f32 0x358637BD#32)))))) (broadcastInDim S1024x2048 ![0, 1] bcast_S1x2048_S1024x2048_0_1 (broadcastInDim S1x2048 ![1] bcast_S2048_S1x2048_1 G))

/-- The normalised rows times the input weights. -/
def prod (X : FVec Ideal S128x8x2048 .f32) (G : FVec Ideal S1x2048 .f32) (W : FVec Ideal S1x2048x5136 .f32) : FVec Ideal S1024x5136 .f32 :=
  Host.dotGeneral dot_S1024x2048_S2048x5136_S1024x5136_1_0_0_1_n_n none (norm (shapeCast S1024x2048 X shapeCasts_S128x8x2048_S1024x2048) (shapeCast S2048 G shapeCasts_S1x2048_S2048)) (shapeCast S2048x5136 W shapeCasts_S1x2048x5136_S2048x5136)

/-- The input weights with a row for every column of the product. -/
def wt (W : FVec Ideal S1x2048x5136 .f32) : FVec Ideal S5136x2048 .f32 :=
  transpose S5136x2048 [1, 0] (shapeCast S2048x5136 W shapeCasts_S1x2048x5136_S2048x5136) transposes_S2048x5136_S5136x2048_1_0

/-- The product without the columns of the decay. -/
def resZ (X : FVec Ideal S128x8x2048 .f32) (G : FVec Ideal S1x2048 .f32) (W : FVec Ideal S1x2048x5136 .f32) : FVec Ideal S1024x5120 .bf16 :=
  truncf .bf16 (concatenate S1024x5120 1 [⟨S1024x3072, extractStridedSlice S1024x3072 ![0, 0] (prod X G W) slices_S1024x5136_S1024x3072_0_0⟩, ⟨S1024x2048, extractStridedSlice S1024x2048 ![0, 3088] (prod X G W) slices_S1024x5136_S1024x2048_0_3088⟩] concatenates_S1024x3072_S1024x2048_S1024x5120_d1) bitsLt_bf16_f32

/-- The 128 columns of the product from the decay's on. -/
def resD (X : FVec Ideal S128x8x2048 .f32) (G : FVec Ideal S1x2048 .f32) (W : FVec Ideal S1x2048x5136 .f32) : FVec Ideal S1024x128 .f32 :=
  extractStridedSlice S1024x128 ![0, 3072] (prod X G W) slices_S1024x5136_S1024x128_0_3072

/-- The weights without the rows of the decay. -/
def resW (W : FVec Ideal S1x2048x5136 .f32) : FVec Ideal S5120x2048 .bf16 :=
  truncf .bf16 (concatenate S5120x2048 0 [⟨S3072x2048, extractStridedSlice S3072x2048 ![0, 0] (wt W) slices_S5136x2048_S3072x2048_0_0⟩, ⟨S2048x2048, extractStridedSlice S2048x2048 ![3088, 0] (wt W) slices_S5136x2048_S2048x2048_3088_0⟩] concatenates_S3072x2048_S2048x2048_S5120x2048_d0) bitsLt_bf16_f32

/-- The 128 rows of the weights from the decay's on. -/
def resV (W : FVec Ideal S1x2048x5136 .f32) : FVec Ideal S128x2048 .bf16 :=
  truncf .bf16 (extractStridedSlice S128x2048 ![3072, 0] (wt W) slices_S5136x2048_S128x2048_3072_0) bitsLt_bf16_f32

theorem norm_at (X : FVec Ideal S1024x2048 .f32) (G : FVec Ideal S2048 .f32) (a : Fin 1024) (b : Fin 2048) :
    norm X G (ix2 a b) = scaled (fun k => X (ix2 a k)) (fun k => G (ix1 k)) b := by
  pointwise [norm, scaled, rinv]

theorem rows_at (X : FVec Ideal S128x8x2048 .f32) (a : Fin 1024) (k : Fin 2048) :
    shapeCast S1024x2048 X shapeCasts_S128x8x2048_S1024x2048 (ix2 a k) = X (ix3 ⟨a.val / 8, by omega⟩ ⟨a.val % 8, by omega⟩ k) := by
  pointwise

theorem scale_at (G : FVec Ideal S1x2048 .f32) (k : Fin 2048) : shapeCast S2048 G shapeCasts_S1x2048_S2048 (ix1 k) = G (ix2 0 k) := by
  pointwise

/-- One entry of the product. -/
def entry (X : FVec Ideal S128x8x2048 .f32) (G : FVec Ideal S1x2048 .f32) (W : FVec Ideal S1x2048x5136 .f32) (a : Fin 1024) (b : Fin 5136) : EReal :=
  ∑ k, scaled (fun l => X (ix3 ⟨a.val / 8, by omega⟩ ⟨a.val % 8, by omega⟩ l)) (fun l => G (ix2 0 l)) k * W (ix3 0 k b)

theorem prod_at (X : FVec Ideal S128x8x2048 .f32) (G : FVec Ideal S1x2048 .f32) (W : FVec Ideal S1x2048x5136 .f32) (a : Fin 1024) (b : Fin 5136) :
    prod X G W (ix2 a b) = entry X G W a b := by
  pointwise [prod, norm_at, entry]

theorem wt_at (W : FVec Ideal S1x2048x5136 .f32) (b : Fin 5136) (k : Fin 2048) : wt W (ix2 b k) = W (ix3 0 k b) := by
  pointwise [wt]

/-- The first 3072 columns, -/
theorem resZ_lo (X : FVec Ideal S128x8x2048 .f32) (G : FVec Ideal S1x2048 .f32) (W : FVec Ideal S1x2048x5136 .f32) (a : Fin 1024) (b : Fin 5120) (h : b.val < 3072) :
    resZ X G W (ix2 a b) = entry X G W a ⟨b.val, by omega⟩ := by
  pointwise [resZ, prod_at]
  rw [dif_pos h]

/-- and the others. -/
theorem resZ_hi (X : FVec Ideal S128x8x2048 .f32) (G : FVec Ideal S1x2048 .f32) (W : FVec Ideal S1x2048x5136 .f32) (a : Fin 1024) (b : Fin 5120) (h : 3072 ≤ b.val) :
    resZ X G W (ix2 a b) = entry X G W a ⟨b.val + 16, by omega⟩ := by
  pointwise [resZ, prod_at]
  rw [dif_neg (by omega)]
  exact congrArg (entry X G W a) (Fin.ext (by dsimp only; omega))

theorem resD_at (X : FVec Ideal S128x8x2048 .f32) (G : FVec Ideal S1x2048 .f32) (W : FVec Ideal S1x2048x5136 .f32) (a : Fin 1024) (b : Fin 128) :
    resD X G W (ix2 a b) = entry X G W a ⟨3072 + b.val, by omega⟩ := by
  pointwise [resD, prod_at]

/-- The first 3072 rows, -/
theorem resW_lo (W : FVec Ideal S1x2048x5136 .f32) (b : Fin 5120) (k : Fin 2048) (h : b.val < 3072) :
    resW W (ix2 b k) = W (ix3 0 k ⟨b.val, by omega⟩) := by
  pointwise [resW, wt_at]
  rw [dif_pos h]

/-- and the others. -/
theorem resW_hi (W : FVec Ideal S1x2048x5136 .f32) (b : Fin 5120) (k : Fin 2048) (h : 3072 ≤ b.val) :
    resW W (ix2 b k) = W (ix3 0 k ⟨b.val + 16, by omega⟩) := by
  pointwise [resW, wt_at]
  rw [dif_neg (by omega)]
  exact congrArg (fun l => W (ix3 0 k l)) (Fin.ext (by dsimp only; omega))

theorem resV_at (W : FVec Ideal S1x2048x5136 .f32) (b : Fin 128) (k : Fin 2048) :
    resV W (ix2 b k) = W (ix3 0 k ⟨3072 + b.val, by omega⟩) := by
  pointwise [resV, wt_at]

end Cert.Reference5Ideal.Inproj

end
-- ==== Proof.Inproj.Value.lean ====
/- The input product's call: its four result arrays are the reference's. -/
module

public import proofs.«01_k».proof.Proof.Inproj.Reads
public import proofs.«01_k».proof.Proof.Inproj.Ref
public import Idealize.ShloMosaic.Lib.Claim

@[expose] public section

set_option maxRecDepth 16384

noncomputable section

namespace Cert.Kernel5Ideal.Inproj

open Cert.Kernel5Ideal Cert.Kernel5Ideal.Gen Idealize.ShloMosaic Idealize.ShloMosaic.TcCoe Idealize.SL.Sem
open Idealize.ShloMosaic.Pipeline (Dat)
open Cert.Row (rinv scaled dot_scaled)
open Cert.Reference5Ideal.Inproj (entry resZ resD resW resV resZ_lo resZ_hi resD_at resW_lo resW_hi resV_at)

variable (m : (ℓ : Loc nD τ sig) → Buf (Elt Ideal) ℓ)

/-- What the reference's four results are, of the kernel's arguments. -/
abbrev REFZ (c : Dev nD) : FVec Ideal S1024x5120 .bf16 := resZ (aX m c) (aG m c) (aW m c)
abbrev REFD (c : Dev nD) : FVec Ideal S1024x128 .f32 := resD (aX m c) (aG m c) (aW m c)
abbrev REFW (c : Dev nD) : FVec Ideal S5120x2048 .bf16 := resW (aW m c)
abbrev REFV (c : Dev nD) : FVec Ideal S128x2048 .bf16 := resV (aW m c)

/-- Any point leaves, in the product's buffer, its 1024 columns of the product. -/
theorem after4_at (c : Dev nD) (t : Fin cfg0.N) (a b : Fin 1024) : (after4 m c t : FVec Ideal S1024x1024 .bf16) (ix2 a b)
    = entry (aX m c) (aG m c) (aW m c) a ⟨1024 * t.val + 16 * (t.val / 3) + b.val, by have := lt5 t; omega⟩ := by
  by_cases hA : cond0_0 (grid0.coords t)
  · obtain rfl := eq_p0 t hA
    rw [after4_A, outA4_eq, pay1_at]
    simp only [pay5_at, pay7_at, pay11_at, read0, read1, read2]
    exact dot_scaled _ _ _
  · have hB : cond0_1 (grid0.coords t) := (hcond0_1 t).mpr (Nat.pos_of_ne_zero fun h => hA ((hcond0_0 t).mpr (by rw [h])))
    rw [after4_B m c t hA hB, outB4_eq, pay3_at]
    simp only [scr0_eq, scr1_eq, pay6_at, pay8_at, read0, read1, read2]
    exact dot_scaled _ _ _

/-- Any point leaves, in the weights' buffer, its 1024 rows of the transposed weights. -/
theorem after6_at (c : Dev nD) (t : Fin cfg0.N) (a : Fin 1024) (k : Fin 2048) : (after6 m c t : FVec Ideal S1024x2048 .bf16) (ix2 a k)
    = aW m c (ix3 0 k ⟨1024 * t.val + 16 * (t.val / 3) + a.val, by have := lt5 t; omega⟩) := by
  by_cases hA : cond0_0 (grid0.coords t)
  · obtain rfl := eq_p0 t hA
    rw [after6_A, outA6_eq, pay11_at, read2]
  · have hB : cond0_1 (grid0.coords t) := (hcond0_1 t).mpr (Nat.pos_of_ne_zero fun h => hA ((hcond0_0 t).mpr (by rw [h])))
    rw [after6_B m c t hA hB, outB6_eq, pay2_at, read2]

/-- The decay's columns, left by the first point. -/
theorem after5_at (c : Dev nD) (a : Fin 1024) (b : Fin 128) : (after5 m c : FVec Ideal S1024x128 .f32) (ix2 a b)
    = entry (aX m c) (aG m c) (aW m c) a ⟨3072 + b.val, by omega⟩ := by
  unfold after5
  rw [outA5_eq, pay10_at]
  simp only [read0, read1, read3]
  exact dot_scaled _ _ _

/-- The decay's weights, left by the first point. -/
theorem after7_at (c : Dev nD) (a : Fin 128) (k : Fin 2048) : (after7 m c : FVec Ideal S128x2048 .bf16) (ix2 a k)
    = aW m c (ix3 0 k ⟨3072 + a.val, by omega⟩) := by
  unfold after7
  rw [outA7_eq, pay9_at, read3]

/-- The product's array after the run is the reference's. -/
theorem final4 (c : Dev nD) : (dats m 0 c).arrAt 4 (cfgs 0).N = REFZ m c := by
  refine (dats m 0 c).arrAt_eq_of_covers 4 _ (by decide +kernel) fun t hf y => ?_
  blk_simp
  rw [after0_4]
  have h5 := lt5 t
  obtain ⟨y0, y1, rfl⟩ : ∃ (y0 y1 : Fin 1024), y = ix2 y0 y1 := ⟨y 0, y 1, by
    funext i; fin_cases i <;> rfl⟩
  have hemb : (win0_4.blk t).view.emb (ix2 y0 y1) = (ix2 y0 ⟨1024 * t.val + y1.val, by omega⟩ : S1024x5120.Idx) := by
    blk_ext [idx t]
  refine (after4_at m c t y0 y1).trans ?_
  rw [hemb]
  by_cases h : t.val < 3
  · rw [REFZ, resZ_lo _ _ _ _ _ (by dsimp only; omega)]
    exact congrArg (entry _ _ _ y0) (Fin.ext (by dsimp only; omega))
  · rw [REFZ, resZ_hi _ _ _ _ _ (by dsimp only; omega)]
    exact congrArg (entry _ _ _ y0) (Fin.ext (by dsimp only; omega))

/-- The decay's array after the run is the reference's. -/
theorem final5 (c : Dev nD) : (dats m 0 c).arrAt 5 (cfgs 0).N = REFD m c := by
  refine (dats m 0 c).arrAt_eq_of_covers 5 _ (by decide +kernel) fun t hf y => ?_
  blk_simp
  rw [after0_5]
  obtain ⟨y0, y1, rfl⟩ : ∃ (y0 : Fin 1024) (y1 : Fin 128), y = ix2 y0 y1 := ⟨y 0, y 1, by
    funext i; fin_cases i <;> rfl⟩
  have hemb : (win0_5.blk t).view.emb (ix2 y0 y1) = (ix2 y0 y1 : S1024x128.Idx) := by
    blk_ext [idx t]
  refine (after5_at m c y0 y1).trans ?_
  rw [hemb, REFD, resD_at]

/-- The weights' array after the run is the reference's. -/
theorem final6 (c : Dev nD) : (dats m 0 c).arrAt 6 (cfgs 0).N = REFW m c := by
  refine (dats m 0 c).arrAt_eq_of_covers 6 _ (by decide +kernel) fun t hf y => ?_
  blk_simp
  rw [after0_6]
  have h5 := lt5 t
  obtain ⟨y0, y1, rfl⟩ : ∃ (y0 : Fin 1024) (y1 : Fin 2048), y = ix2 y0 y1 := ⟨y 0, y 1, by
    funext i; fin_cases i <;> rfl⟩
  have hemb : (win0_6.blk t).view.emb (ix2 y0 y1) = (ix2 ⟨1024 * t.val + y0.val, by omega⟩ y1 : S5120x2048.Idx) := by
    blk_ext [idx t]
  refine (after6_at m c t y0 y1).trans ?_
  rw [hemb]
  by_cases h : t.val < 3
  · rw [REFW, resW_lo _ _ _ (by dsimp only; omega)]
    exact congrArg (fun l => aW m c (ix3 0 y1 l)) (Fin.ext (by dsimp only; omega))
  · rw [REFW, resW_hi _ _ _ (by dsimp only; omega)]
    exact congrArg (fun l => aW m c (ix3 0 y1 l)) (Fin.ext (by dsimp only; omega))

/-- The array of the decay's weights after the run is the reference's. -/
theorem final7 (c : Dev nD) : (dats m 0 c).arrAt 7 (cfgs 0).N = REFV m c := by
  refine (dats m 0 c).arrAt_eq_of_covers 7 _ (by decide +kernel) fun t hf y => ?_
  blk_simp
  rw [after0_7]
  obtain ⟨y0, y1, rfl⟩ : ∃ (y0 : Fin 128) (y1 : Fin 2048), y = ix2 y0 y1 := ⟨y 0, y 1, by
    funext i; fin_cases i <;> rfl⟩
  have hemb : (win0_7.blk t).view.emb (ix2 y0 y1) = (ix2 y0 y1 : S128x2048.Idx) := by
    blk_ext [idx t]
  refine (after7_at m c y0 y1).trans ?_
  rw [hemb, REFV, resV_at]

end Cert.Kernel5Ideal.Inproj

end
-- ==== Proof.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Ffn.Value
public import proofs.«01_k».proof.Proof.Ple.Value
public import proofs.«01_k».proof.Proof.Mix.Results
public import proofs.«01_k».proof.Proof.Inproj.Value
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.ShloMosaic.Tactic Idealize.SL.Sem

/-- `Kernel2` runs to its end from any machine state, leaves its arguments as they are and every semaphore at zero. -/
theorem quiescent_Kernel2 : Cert.quiescent_Kernel2 := fun m ρ _ => Cert.Kernel2.Gen.frame m ρ

/-- `Kernel2Ideal` runs to its end from any machine state, leaves its arguments as they are and every semaphore at zero. -/
theorem quiescent_Kernel2Ideal : Cert.quiescent_Kernel2Ideal := fun m ρ _ => Cert.Kernel2Ideal.Gen.frame m ρ

/-- The reference `Reference2Ideal` runs to its end, leaves its arguments as they are and every semaphore at zero. -/
theorem quiescent_Reference2Ideal : Cert.quiescent_Reference2Ideal := by
  intro m g hpre
  hlo_run
  · simp
  · exact sem_eq_zero_of_no_sems (sig := Cert.Reference2Ideal.sig) (by decide) _

/-- `Kernel3` and `Kernel3Ideal` have the same bodies over any floats. -/
theorem bodies_Kernel3 {F : FTy → Type} [FloatOps F] : Cert.Kernel3.defs₀ (F := F) = Cert.Kernel3Ideal.defs₀ (F := F) := by
  unfold Cert.Kernel3.defs₀ Cert.Kernel3Ideal.defs₀
  congr 1
  funext l
  rcases l with ⟨l, hl⟩
  match l with
  | 0 => rfl
  | n + 1 => exact absurd hl (Nat.not_lt.2 (Nat.le_add_left _ _))

/-- So their pipelines are the same. -/
theorem defs_Kernel3 {F : FTy → Type} [FloatOps F] : Cert.Kernel3.defs (F := F) = Cert.Kernel3Ideal.defs (F := F) := by
  show Pipeline.defs _ _ = Pipeline.defs _ _
  exact congrArg (Pipeline.defs (Cert.Kernel3Ideal.pcfgs (F := F))) bodies_Kernel3

/-- The kernel `Kernel3` runs to its end from any machine state, leaves its arguments as they are and every semaphore at zero; it is the text of
    `Kernel3Ideal`, whose run is stated over any floats. -/
theorem quiescent_Kernel3 : Cert.quiescent_Kernel3 := by
  intro m ρ _
  rw [defs_Kernel3]
  exact Cert.Kernel3Ideal.Ple.frame (F := Bits) m ρ

/-- The same of `Kernel3Ideal`. -/
theorem quiescent_Kernel3Ideal : Cert.quiescent_Kernel3Ideal := fun m ρ _ => Cert.Kernel3Ideal.Ple.frame (F := Ideal) m ρ

/-- The reference `Reference3Ideal` runs to its end, leaves its arguments as they are and every semaphore at zero. -/
theorem quiescent_Reference3Ideal : Cert.quiescent_Reference3Ideal := by
  intro m g hpre
  hlo_run
  · simp
  · exact sem_eq_zero_of_no_sems (sig := Cert.Reference3Ideal.sig) (by decide) _

/-- `Kernel4` runs to its end from any machine state, leaves its arguments as they are and every semaphore at zero. -/
theorem quiescent_Kernel4 : Cert.quiescent_Kernel4 := fun m ρ _ => Cert.Kernel4.Gen.frame m ρ

/-- `Kernel4Ideal` runs to its end from any machine state, leaves its arguments as they are and every semaphore at zero. -/
theorem quiescent_Kernel4Ideal : Cert.quiescent_Kernel4Ideal := fun m ρ _ => Cert.Kernel4Ideal.Gen.frame m ρ

/-- The reference `Reference4Ideal` runs to its end, leaves its arguments as they are and every semaphore at zero. -/
theorem quiescent_Reference4Ideal : Cert.quiescent_Reference4Ideal := by
  intro m g hpre
  hlo_run
  · simp
  · exact sem_eq_zero_of_no_sems (sig := Cert.Reference4Ideal.sig) (by decide) _

/-- `Kernel5` and `Kernel5Ideal` have the same bodies over any floats. -/
theorem bodies_Kernel5 {F : FTy → Type} [FloatOps F] : Cert.Kernel5.defs₀ (F := F) = Cert.Kernel5Ideal.defs₀ (F := F) := by
  unfold Cert.Kernel5.defs₀ Cert.Kernel5Ideal.defs₀
  congr 1
  funext l
  rcases l with ⟨l, hl⟩
  match l with
  | 0 => rfl
  | n + 1 => exact absurd hl (Nat.not_lt.2 (Nat.le_add_left _ _))

/-- So their pipelines are the same. -/
theorem defs_Kernel5 {F : FTy → Type} [FloatOps F] : Cert.Kernel5.defs (F := F) = Cert.Kernel5Ideal.defs (F := F) := by
  show Pipeline.defs _ _ = Pipeline.defs _ _
  exact congrArg (Pipeline.defs (Cert.Kernel5Ideal.pcfgs (F := F))) bodies_Kernel5

/-- The kernel `Kernel5` runs to its end from any machine state, leaves its arguments as they are and every semaphore at zero; it is the text of
    `Kernel5Ideal`, whose run is stated over any floats. -/
theorem quiescent_Kernel5 : Cert.quiescent_Kernel5 := by
  intro m ρ _
  rw [defs_Kernel5]
  exact Cert.Kernel5Ideal.Inproj.frame (F := Bits) m ρ

/-- The same of `Kernel5Ideal`. -/
theorem quiescent_Kernel5Ideal : Cert.quiescent_Kernel5Ideal := fun m ρ _ => Cert.Kernel5Ideal.Inproj.frame (F := Ideal) m ρ

/-- The reference `Reference5Ideal` runs to its end, leaves its arguments as they are and every semaphore at zero. -/
theorem quiescent_Reference5Ideal : Cert.quiescent_Reference5Ideal := by
  intro m g hpre
  hlo_run
  · simp
  · exact sem_eq_zero_of_no_sems (sig := Cert.Reference5Ideal.sig) (by decide) _

/-- Reading `Kernel2` over the ideal numbers rewrites nothing. -/
theorem preserves_Kernel2_Kernel2Ideal : Cert.preserves_Kernel2_Kernel2Ideal := trivial

/-- Over the ideal numbers the feed-forward kernel and its reference end with the same result, from the same arguments. -/
theorem algebraic_Kernel2Ideal_Reference2Ideal : Cert.algebraic_Kernel2Ideal_Reference2Ideal := by
  pair_intro
  · run_from Cert.Kernel2Ideal.Gen.run_main m g
  · hlo_run
    exact (Cert.Kernel2Ideal.Ffn.final m c).symm

/-- Reading `Kernel3` over the ideal numbers rewrites nothing. -/
theorem preserves_Kernel3_Kernel3Ideal : Cert.preserves_Kernel3_Kernel3Ideal := trivial

set_option maxHeartbeats 4000000 in
/-- Over the ideal numbers the per-layer-embedding kernel and its reference end with the same two results, from the same arguments. -/
theorem algebraic_Kernel3Ideal_Reference3Ideal : Cert.algebraic_Kernel3Ideal_Reference3Ideal := by
  pair_intro
  · run_from Cert.Kernel3Ideal.Ple.run_main m g
  · hlo_run
    · exact (Cert.Kernel3Ideal.Ple.final8 m c).symm
    · exact (Cert.Kernel3Ideal.Ple.final9 m c).symm

/-- Reading `Kernel4` over the ideal numbers rewrites nothing. -/
theorem preserves_Kernel4_Kernel4Ideal : Cert.preserves_Kernel4_Kernel4Ideal := trivial

set_option maxHeartbeats 4000000 in
/-- Over the ideal numbers the mixing kernel and its reference end with the same two results, from the same arguments. -/
theorem algebraic_Kernel4Ideal_Reference4Ideal : Cert.algebraic_Kernel4Ideal_Reference4Ideal := by
  intro m g m' g' _ hagree
  refine ⟨fun c => Cert.Kernel4Ideal.Mix.REFH m c, fun c => Cert.Kernel4Ideal.Mix.REFV m c,
    Cert.Kernel4Ideal.Mix.run_results m g, ?_⟩
  refine Idealize.ShloMosaic.θ_run_mono (Cert.Reference4Ideal.Mix.run_results m' g') fun r h c => ?_
  obtain ⟨h0, h1, h2, h3, h4, h5, h6, h7, h8, h9, h10, h11⟩ := hagree c
  refine ⟨(h c).1.trans ?_, (h c).2.1.trans ?_, ?_⟩
  · rw [h0, h1, h2, h3, h4, h5, h6, h7, h8, h9, h10, h11]
  · rw [h5, h6, h7]
  · exact (h c).2.2
/-- Reading `Kernel5` over the ideal numbers rewrites nothing. -/
theorem preserves_Kernel5_Kernel5Ideal : Cert.preserves_Kernel5_Kernel5Ideal := trivial

set_option maxHeartbeats 4000000 in
/-- Over the ideal numbers the input product's kernel and its reference end with the same four results, from the same arguments. -/
theorem algebraic_Kernel5Ideal_Reference5Ideal : Cert.algebraic_Kernel5Ideal_Reference5Ideal := by
  pair_intro
  · run_from Cert.Kernel5Ideal.Inproj.run_main m g
  · hlo_run
    · exact (congrArg (Cert.Reference5Ideal.Inproj.resZ (Cert.Kernel5Ideal.Inproj.aX m c) (Cert.Kernel5Ideal.Inproj.aG m c)) (hagree c).2.2).trans (Cert.Kernel5Ideal.Inproj.final4 m c).symm
    · exact (Cert.Kernel5Ideal.Inproj.final5 m c).symm
    · exact (congrArg Cert.Reference5Ideal.Inproj.resW (hagree c).2.2).trans (Cert.Kernel5Ideal.Inproj.final6 m c).symm
    · exact (Cert.Kernel5Ideal.Inproj.final7 m c).symm
theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  quiescent_Kernel2, quiescent_Kernel2Ideal, quiescent_Reference2Ideal, quiescent_Kernel3, quiescent_Kernel3Ideal, quiescent_Reference3Ideal, quiescent_Kernel4, quiescent_Kernel4Ideal, quiescent_Reference4Ideal, quiescent_Kernel5, quiescent_Kernel5Ideal, quiescent_Reference5Ideal, preserves_Kernel2_Kernel2Ideal, algebraic_Kernel2Ideal_Reference2Ideal, preserves_Kernel3_Kernel3Ideal, algebraic_Kernel3Ideal_Reference3Ideal, preserves_Kernel4_Kernel4Ideal, algebraic_Kernel4Ideal_Reference4Ideal, preserves_Kernel5_Kernel5Ideal, algebraic_Kernel5Ideal_Reference5Ideal⟩

end Cert.Proof

end
